-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x4096 : Shape := ⟨2, ![8192, 4096]⟩
abbrev S8192x256 : Shape := ⟨2, ![8192, 256]⟩
abbrev S2x8192x256 : Shape := ⟨3, ![2, 8192, 256]⟩
abbrev S2x512x256 : Shape := ⟨3, ![2, 512, 256]⟩
abbrev S2 : Shape := ⟨1, ![2]⟩
abbrev S16 : Shape := ⟨1, ![16]⟩
abbrev S_ : Shape := ⟨0, ![]⟩
abbrev S1 : Shape := ⟨1, ![1]⟩
abbrev S1x8192x256 : Shape := ⟨3, ![1, 8192, 256]⟩
abbrev S512x256 : Shape := ⟨2, ![512, 256]⟩
abbrev S1x512x256 : Shape := ⟨3, ![1, 512, 256]⟩

abbrev nBuf : Space → Nat
  | .hbm => 3
  | .vmem => 4
  | .smem => 0
  | _ => 0

abbrev bufTy : (tb : Table) → Fin (tcTables nBuf tb) → BufTy
  | .hbm, ⟨0, _⟩ => ⟨S512x8192, .bf16⟩
  | .hbm, ⟨1, _⟩ => ⟨S8192x4096, .bf16⟩
  | .hbm, ⟨2, _⟩ => ⟨S8192x256, .f32⟩
  | .local _ .vmem, ⟨0, _⟩ => ⟨S512x8192, .bf16⟩
  | .local _ .vmem, ⟨1, _⟩ => ⟨S8192x256, .f32⟩
  | .local _ .vmem, ⟨2, _⟩ => ⟨S2x8192x256, .bf16⟩
  | .local _ .vmem, ⟨3, _⟩ => ⟨S2x512x256, .f32⟩
  | _, _ => ⟨S512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c0_i32_61 : BitVec 32) : Fin 2 → Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c0_i32_61
  let c16_i32_62 : BitVec 32 := 16#32
  let v65 : BitVec 32 := Scalar.remsi v64 c16_i32_62
  let c256_i32 : BitVec 32 := 256#32
  let v66 : BitVec 32 := Scalar.muli v65 c256_i32
  ![0, v66.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v90 : BitVec 32 := Scalar.muli v2 c512_i32
  let v91 : Index := Scalar.indexCast v90
  let c0_85 : Index := 0#32
  ![v91.toNat, 0]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_109 : BitVec 32 := 512#32
  let v116 : BitVec 32 := Scalar.muli v2 c512_i32_109
  let c0_i32_114 : BitVec 32 := 0#32
  ![v116.toNat, 0]
def k0_dev16 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_107 : BitVec 32 := 1#32
  let v114 : BitVec 32 := Scalar.addi v2 c1_i32_107
  let c16_i32_108 : BitVec 32 := 16#32
  let v115 : BitVec 32 := Scalar.remsi v114 c16_i32_108
  let c1_i32_112 : BitVec 32 := 1#32
  let v117 : BitVec 32 := Scalar.muli v115 c1_i32_112
  let v118 : BitVec 32 := Scalar.addi c0_i32_113 v117
  v118.toNat
def k0_dev17 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_139 : BitVec 32 := 2#32
  let v147 : BitVec 32 := Scalar.addi v2 c2_i32_139
  let c16_i32_140 : BitVec 32 := 16#32
  let v148 : BitVec 32 := Scalar.remsi v147 c16_i32_140
  let c1_i32_144 : BitVec 32 := 1#32
  let v150 : BitVec 32 := Scalar.muli v148 c1_i32_144
  let v151 : BitVec 32 := Scalar.addi c0_i32_145 v150
  v151.toNat
def k0_dev18 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_177 : BitVec 32 := 3#32
  let v185 : BitVec 32 := Scalar.addi v2 c3_i32_177
  let c16_i32_178 : BitVec 32 := 16#32
  let v186 : BitVec 32 := Scalar.remsi v185 c16_i32_178
  let c1_i32_182 : BitVec 32 := 1#32
  let v188 : BitVec 32 := Scalar.muli v186 c1_i32_182
  let v189 : BitVec 32 := Scalar.addi c0_i32_183 v188
  v189.toNat
def k0_dev19 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_215 : BitVec 32 := 4#32
  let v223 : BitVec 32 := Scalar.addi v2 c4_i32_215
  let c16_i32_216 : BitVec 32 := 16#32
  let v224 : BitVec 32 := Scalar.remsi v223 c16_i32_216
  let c1_i32_220 : BitVec 32 := 1#32
  let v226 : BitVec 32 := Scalar.muli v224 c1_i32_220
  let v227 : BitVec 32 := Scalar.addi c0_i32_221 v226
  v227.toNat
def k0_dev20 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_253 : BitVec 32 := 5#32
  let v261 : BitVec 32 := Scalar.addi v2 c5_i32_253
  let c16_i32_254 : BitVec 32 := 16#32
  let v262 : BitVec 32 := Scalar.remsi v261 c16_i32_254
  let c1_i32_258 : BitVec 32 := 1#32
  let v264 : BitVec 32 := Scalar.muli v262 c1_i32_258
  let v265 : BitVec 32 := Scalar.addi c0_i32_259 v264
  v265.toNat
def k0_dev21 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_291 : BitVec 32 := 6#32
  let v299 : BitVec 32 := Scalar.addi v2 c6_i32_291
  let c16_i32_292 : BitVec 32 := 16#32
  let v300 : BitVec 32 := Scalar.remsi v299 c16_i32_292
  let c1_i32_296 : BitVec 32 := 1#32
  let v302 : BitVec 32 := Scalar.muli v300 c1_i32_296
  let v303 : BitVec 32 := Scalar.addi c0_i32_297 v302
  v303.toNat
def k0_dev22 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_329 : BitVec 32 := 7#32
  let v337 : BitVec 32 := Scalar.addi v2 c7_i32_329
  let c16_i32_330 : BitVec 32 := 16#32
  let v338 : BitVec 32 := Scalar.remsi v337 c16_i32_330
  let c1_i32_334 : BitVec 32 := 1#32
  let v340 : BitVec 32 := Scalar.muli v338 c1_i32_334
  let v341 : BitVec 32 := Scalar.addi c0_i32_335 v340
  v341.toNat
def k0_dev23 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_367 : BitVec 32 := 8#32
  let v375 : BitVec 32 := Scalar.addi v2 c8_i32_367
  let c16_i32_368 : BitVec 32 := 16#32
  let v376 : BitVec 32 := Scalar.remsi v375 c16_i32_368
  let c1_i32_372 : BitVec 32 := 1#32
  let v378 : BitVec 32 := Scalar.muli v376 c1_i32_372
  let v379 : BitVec 32 := Scalar.addi c0_i32_373 v378
  v379.toNat
def k0_dev24 (d0 : Dev nD) : Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_405 : BitVec 32 := 9#32
  let v413 : BitVec 32 := Scalar.addi v2 c9_i32_405
  let c16_i32_406 : BitVec 32 := 16#32
  let v414 : BitVec 32 := Scalar.remsi v413 c16_i32_406
  let c1_i32_410 : BitVec 32 := 1#32
  let v416 : BitVec 32 := Scalar.muli v414 c1_i32_410
  let v417 : BitVec 32 := Scalar.addi c0_i32_411 v416
  v417.toNat
def k0_dev25 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_443 : BitVec 32 := 10#32
  let v451 : BitVec 32 := Scalar.addi v2 c10_i32_443
  let c16_i32_444 : BitVec 32 := 16#32
  let v452 : BitVec 32 := Scalar.remsi v451 c16_i32_444
  let c1_i32_448 : BitVec 32 := 1#32
  let v454 : BitVec 32 := Scalar.muli v452 c1_i32_448
  let v455 : BitVec 32 := Scalar.addi c0_i32_449 v454
  v455.toNat
def k0_dev26 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_481 : BitVec 32 := 11#32
  let v489 : BitVec 32 := Scalar.addi v2 c11_i32_481
  let c16_i32_482 : BitVec 32 := 16#32
  let v490 : BitVec 32 := Scalar.remsi v489 c16_i32_482
  let c1_i32_486 : BitVec 32 := 1#32
  let v492 : BitVec 32 := Scalar.muli v490 c1_i32_486
  let v493 : BitVec 32 := Scalar.addi c0_i32_487 v492
  v493.toNat
def k0_dev27 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_519 : BitVec 32 := 12#32
  let v527 : BitVec 32 := Scalar.addi v2 c12_i32_519
  let c16_i32_520 : BitVec 32 := 16#32
  let v528 : BitVec 32 := Scalar.remsi v527 c16_i32_520
  let c1_i32_524 : BitVec 32 := 1#32
  let v530 : BitVec 32 := Scalar.muli v528 c1_i32_524
  let v531 : BitVec 32 := Scalar.addi c0_i32_525 v530
  v531.toNat
def k0_dev28 (d0 : Dev nD) : Nat :=
  let c0_i32_563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_557 : BitVec 32 := 13#32
  let v565 : BitVec 32 := Scalar.addi v2 c13_i32_557
  let c16_i32_558 : BitVec 32 := 16#32
  let v566 : BitVec 32 := Scalar.remsi v565 c16_i32_558
  let c1_i32_562 : BitVec 32 := 1#32
  let v568 : BitVec 32 := Scalar.muli v566 c1_i32_562
  let v569 : BitVec 32 := Scalar.addi c0_i32_563 v568
  v569.toNat
def k0_dev29 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_595 : BitVec 32 := 14#32
  let v603 : BitVec 32 := Scalar.addi v2 c14_i32_595
  let c16_i32_596 : BitVec 32 := 16#32
  let v604 : BitVec 32 := Scalar.remsi v603 c16_i32_596
  let c1_i32_600 : BitVec 32 := 1#32
  let v606 : BitVec 32 := Scalar.muli v604 c1_i32_600
  let v607 : BitVec 32 := Scalar.addi c0_i32_601 v606
  v607.toNat
def k0_dev30 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_625 : BitVec 32 := 15#32
  let v633 : BitVec 32 := Scalar.addi v2 c15_i32_625
  let c16_i32_626 : BitVec 32 := 16#32
  let v634 : BitVec 32 := Scalar.remsi v633 c16_i32_626
  let c1_i32_630 : BitVec 32 := 1#32
  let v636 : BitVec 32 := Scalar.muli v634 c1_i32_630
  let v637 : BitVec 32 := Scalar.addi c0_i32_631 v636
  v637.toNat
def k0_off5 (d0 : Dev nD) (c1_i32_647 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v655 : BitVec 32 := Scalar.subi v2 c1_i32_647
  let c16_i32_648 : BitVec 32 := 16#32
  let v656 : BitVec 32 := Scalar.addi v655 c16_i32_648
  let c16_i32_649 : BitVec 32 := 16#32
  let v657 : BitVec 32 := Scalar.remsi v656 c16_i32_649
  ![v657.toNat]
def k0_off6 (d0 : Dev nD) (c1_i32_647 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v655 : BitVec 32 := Scalar.subi v2 c1_i32_647
  let c16_i32_648 : BitVec 32 := 16#32
  let v656 : BitVec 32 := Scalar.addi v655 c16_i32_648
  let c16_i32_649 : BitVec 32 := 16#32
  let v657 : BitVec 32 := Scalar.remsi v656 c16_i32_649
  let c512_i32_650 : BitVec 32 := 512#32
  let v658 : BitVec 32 := Scalar.muli v657 c512_i32_650
  let c0_i32_655 : BitVec 32 := 0#32
  ![v658.toNat, 0]
abbrev stage0_0 : Fin 1 → Memref sig .tc .vmem S512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.BodyText.lean ====
/-
The text of the kernel's body, with the repetition taken out of it.

The printed body unrolls sixteen steps, fifteen signals and fifteen receives. Here each of the repeated pieces is
written once, with the number of the step as a parameter, and `body_text` says that the printed body is the chain of
those pieces.
-/
module

public import proofs.«01_k».proof.Proof.Gen.KernelIdeal.Skeleton
public import proofs.«01_k».proof.Proof.Gen.KernelIdeal.Launch

@[expose] public section

noncomputable section

namespace Cert.A2A

open Cert.KernelIdeal Cert.KernelIdeal.Gen
open Idealize.ShloMosaic Idealize.ShloMosaic.TcCoe
open Idealize.SL.Sem

variable {F : FTy → Type} [FloatOps F]

/-! ## The buffers, whole -/

abbrev xM : Memref sig .tc .vmem S512x8192 .bf16 := Memref.whole cc0_stg0_0
abbrev wM : Memref sig .tc .hbm S8192x4096 .bf16 := Memref.whole main_arg1
abbrev oM : Memref sig .tc .vmem S8192x256 .f32 := Memref.whole cc0_stg1_0
abbrev wbM : Memref sig .tc .vmem S2x8192x256 .bf16 := Memref.whole cc0_scratch0
abbrev ybM : Memref sig .tc .vmem S2x512x256 .f32 := Memref.whole cc0_scratch1

/-- The slot a step works in. -/
def par (k : ℕ) : Fin 2 := ⟨k % 2, Nat.mod_lt _ (by decide)⟩

/-! ## The pieces of the buffers the body names -/

theorem inb_wb (p : Fin 2) : ∀ a, (![p.val, 0, 0] : Fin 3 → Nat) a + S1x8192x256.size a ≤ S2x8192x256.size a := by
  revert p; decide
theorem inb_yb (p : Fin 2) : ∀ a, (![p.val, 0, 0] : Fin 3 → Nat) a + S1x512x256.size a ≤ S2x512x256.size a := by
  revert p; decide
theorem inb_sem (p : Fin 2) : ∀ a, (![p.val] : Fin 1 → Nat) a + S1.size a ≤ S2.size a := by
  revert p; decide
theorem words_wb (p : Fin 2) :
    (Rect.unit (s := S2x8192x256) ![p.val, 0, 0] S1x8192x256.size (inb_wb p)).WholeWords (EltTy.packing .bf16) := by
  rcases p with ⟨_ | _ | n, h⟩
  · exact wordsbf16_S2x8192x256_S1x8192x256_0_0_0
  · exact wordsbf16_S2x8192x256_S1x8192x256_1_0_0
  · exact absurd h (by omega)

abbrev wbRect (p : Fin 2) : Rect S2x8192x256 := Rect.unit (s := S2x8192x256) ![p.val, 0, 0] S1x8192x256.size (inb_wb p)
abbrev ybRect (p : Fin 2) : Rect S2x512x256 := Rect.unit (s := S2x512x256) ![p.val, 0, 0] S1x512x256.size (inb_yb p)
abbrev xRect : Rect S512x8192 := Rect.unit (s := S512x8192) ![0, 0] S512x8192.size inb_S512x8192_S512x8192_0_0
abbrev ownRect (c : Dev nD) : Rect S8192x256 := Rect.unit (s := S8192x256) (k0_off2 c) S512x256.size (k0_off2_inb c)

/-- Slot `p` of the buffer of columns of `w`, and of the buffer of products. -/
abbrev wSlot (p : Fin 2) : Memref sig .tc .vmem S8192x256 .bf16 :=
  (wbM.slice (wbRect p) (fun _ => rfl)).squeeze S8192x256 squeezes_S1x8192x256_S8192x256
abbrev ySlot (p : Fin 2) : Memref sig .tc .vmem S512x256 .f32 :=
  (ybM.slice (ybRect p) (fun _ => rfl)).squeeze S512x256 squeezes_S1x512x256_S512x256

/-- The semaphores of the fetches, of the departures, and of what source `j` sends. -/
abbrev wSem (p : Fin 2) : DmaSem sig :=
  ((cc0_scratch2.slice (Rect.unit (s := S2) ![p.val] S1.size (inb_sem p))).squeeze S_ squeezes_S1_S_).sem
abbrev sSem (p : Fin 2) : DmaSem sig :=
  ((cc0_scratch3.slice (Rect.unit (s := S2) ![p.val] S1.size (inb_sem p))).squeeze S_ squeezes_S1_S_).sem
abbrev rSem (j : Dev nD) : DmaSem sig :=
  ((cc0_scratch4.slice (Rect.unit (s := S16) (k0_off3 j) S1.size (k0_off3_inb j))).squeeze S_ squeezes_S1_S_).sem
abbrev barS : Sem sig := (SemArray.scalar (sig.barrier 0 rfl) : Sems sig S_).sem

/-- The columns of `w` device `c` fetches at step `k`. -/
abbrev wCol (c : Dev nD) (k : ℕ) : Memref sig .tc .hbm S8192x256 .bf16 :=
  wM.slice (Rect.unit (s := S8192x4096) (k0_off1 c (BitVec.ofNat 32 (Fin.ofNat 16 k).val)) S8192x256.size
    (k0_off1_inb c (Fin.ofNat 16 k))) (fun _ => rfl)
/-- The rows of the result source `j` writes. -/
abbrev rowM (j : Dev nD) : Memref sig .tc .vmem S512x256 .f32 :=
  oM.slice (Rect.unit (s := S8192x256) (k0_off4 j) S512x256.size (k0_off4_inb j)) (fun _ => rfl)

/-- The word of the device `k` places after `c`, as the body computes it. -/
def tgtWord (c : Dev nD) (k : BitVec 32) : Nat :=
  (Scalar.addi 0#32 (Scalar.muli (Scalar.remsi (Scalar.addi (Scalar.remsi (Scalar.divsi (Dev.word c) 1#32) 16#32) k) 16#32) 1#32)).toNat
theorem tgtWord_lt (c : Dev nD) (k : Fin 16) : tgtWord c (BitVec.ofNat 32 k.val) < nD := by
  revert c k; decide +kernel
def tgt (c : Dev nD) (k : ℕ) : Dev nD := ⟨tgtWord c (BitVec.ofNat 32 (Fin.ofNat 16 k).val), tgtWord_lt c (Fin.ofNat 16 k)⟩

/-! ## The pieces of the body -/

variable (F) in
abbrev Pg : Type 1 := Prog (TpuEff nD τ sig (Elt F) Λ₀ .tc) PUnit

/-- Signal the device `k` places on. -/
abbrev sigT (c : Dev nD) (k : ℕ) (r : Pg F) : Pg F := .op (.semSignal (Dev.tc (tgt c k)) barS 1) fun _ => r
/-- Wait for the fifteen others. -/
abbrev barT (r : Pg F) : Pg F := .op (.semWait barS 15) fun _ => r
/-- Start fetching step `k`'s columns. -/
abbrev fetchT (c : Dev nD) (k : ℕ) (r : Pg F) : Pg F :=
  .op (.enqueueDma (wCol c k) (.here (wSlot (par k))) (.dma (wSem (par k)))
    ((Memref.isWhole_whole main_arg1).wordExact_slice rfl _ (k0_off1_wordsbf16 c (Fin.ofNat 16 k)))
    (((Memref.isWhole_whole cc0_scratch0).wordExact_slice rfl _ (words_wb (par k))).reshape _ _) ⟨Or.inl rfl, trivial⟩) fun _ => r
/-- Wait for them, and read both factors. -/
abbrev mulT (c : Dev nD) (k : ℕ) (r : Vec F S512x8192 .bf16 → Vec F S1x8192x256 .bf16 → Pg F) : Pg F :=
  .op (.waitDma2 (wSem (par k)) (wCol c k) (wSlot (par k))
    ((Memref.isWhole_whole main_arg1).wordExact_slice rfl _ (k0_off1_wordsbf16 c (Fin.ofNat 16 k)))
    (((Memref.isWhole_whole cc0_scratch0).wordExact_slice rfl _ (words_wb (par k))).reshape _ _)) fun _ =>
  .op (.load xM xRect.toLoadRect (View.loadsAt_vmem h_S512x8192)) fun x =>
  .op (.load wbM (wbRect (par k)).toLoadRect (View.loadsAt_vmem h_S1x8192x256)) fun w => r x w
/-- Wait until slot `p` of the products has been read out. -/
abbrev leftT (c : Dev nD) (p : Fin 2) (r : Pg F) : Pg F :=
  .op (.waitDma2 (sSem p) (rowM c) (ySlot p) (View.wordExact_bits rfl) ((View.wordExact_bits rfl).reshape _ _)) fun _ => r
/-- Put step `k`'s product in its slot and send it. -/
abbrev putT (c : Dev nD) (k : ℕ) (x : Vec F S512x8192 .bf16) (w : Vec F S1x8192x256 .bf16) (r : Pg F) : Pg F :=
  .op (.load ybM (ybRect (par k)).toLoadRect (View.loadsAt_vmem h_S1x512x256)) fun _ =>
  .op (.store ybM (ybRect (par k)) (k0_pay2 x w) Finset.univ (View.stores_vmem_bits_univ h_S1x512x256 rfl) (.inl rfl)) fun _ =>
  .op (.enqueueDma (ySlot (par k)) (.remote (Dev.tc (tgt c k)) (rowM c) (.dma (sSem (par k)))) (.dma (rSem c))
    ((View.wordExact_bits rfl).reshape _ _) (View.wordExact_bits rfl) ⟨⟨rfl, Or.inl rfl⟩, trivial⟩) fun _ => r
/-- Keep the own product. -/
abbrev ownT (c : Dev nD) (x : Vec F S512x8192 .bf16) (w : Vec F S1x8192x256 .bf16) (r : Pg F) : Pg F :=
  .op (.load oM (ownRect c).toLoadRect (View.loadsAt_vmem h_S512x256)) fun _ =>
  .op (.store oM (ownRect c) (k0_pay1 x w) Finset.univ (View.stores_vmem_bits_univ h_S512x256 rfl) (.inl rfl)) fun _ => r
/-- Wait for what the device `k` places before sends (`k` from 1, so `k = r + 1`). -/
abbrev recvT (c : Dev nD) (r : Fin 15) (rest : Pg F) : Pg F :=
  .op (.waitDma2
    ((cc0_scratch4.slice (Rect.unit (s := S16) (k0_off5 c (BitVec.ofNat 32 (1 + r.val))) S1.size (k0_off5_inb c r))).squeeze S_ squeezes_S1_S_).sem
    (ySlot 0)
    (oM.slice (Rect.unit (s := S8192x256) (k0_off6 c (BitVec.ofNat 32 (1 + r.val))) S512x256.size (k0_off6_inb c r)) (fun _ => rfl))
    ((View.wordExact_bits rfl).reshape _ _) (View.wordExact_bits rfl)) fun _ => rest

/-- Signals to the devices `k`, …, `k + n - 1` places on. -/
def sigsT (c : Dev nD) : (n k : ℕ) → Pg F → Pg F
  | 0, _, r => r
  | n + 1, k, r => sigT c k (sigsT c n (k + 1) r)
/-- The steps `k`, …, `k + n - 1`, each of which has a step after it and waits for its slot. -/
def midT (c : Dev nD) : (n k : ℕ) → Pg F → Pg F
  | 0, _, r => r
  | n + 1, k, r => fetchT c (k + 1) (mulT c k fun x w => leftT c (par k) (putT c k x w (midT c n (k + 1) r)))
/-- The receives `k + 1`, …, `k + n`. -/
def recvsT (c : Dev nD) : (n k : ℕ) → Pg F → Pg F
  | 0, _, r => r
  | n + 1, k, r => recvT c (Fin.ofNat 15 k) (recvsT c n (k + 1) r)

/-- The whole body on device `c`. -/
def bodyT (c : Dev nD) : Pg F :=
  sigsT c 15 1 <| barT <|
  fetchT c 0 <|
  fetchT c 1 <| mulT c 0 fun x w => ownT c x w <|
  fetchT c 2 <| mulT c 1 fun x w => putT c 1 x w <|
  fetchT c 3 <| mulT c 2 fun x w => putT c 2 x w <|
  midT c 12 3 <|
  mulT c 15 fun x w => leftT c (par 15) <| putT c 15 x w <|
  leftT c 0 <| leftT c 1 <|
  recvsT c 15 0 (.ret ⟨⟩)

set_option maxRecDepth 65536 in
set_option maxHeartbeats 4000000 in
/-- The printed body is the chain of the pieces. -/
theorem body_text :
    cc0_body (F := F) xM (Memref.isWhole_whole _) wM (Memref.isWhole_whole _) oM (Memref.isWhole_whole _)
      wbM (Memref.isWhole_whole _) ybM (Memref.isWhole_whole _) cc0_scratch2 cc0_scratch3 cc0_scratch4
      = .op .deviceId fun c => bodyT c := by
  rfl

end Cert.A2A

end
-- ==== Proof.Blocks.lean ====
/-
What the blocks hold, and where they lie.

Device `d` multiplies its 512 rows of `x` with the 256 columns of `w` that belong to device `c`, for each `c`, and the
product is rows `[512 d, 512 d + 512)` of the result of device `c`.
-/
module

public import proofs.«01_k».proof.Proof.BodyText
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.A2A

open Cert.KernelIdeal Cert.KernelIdeal.Gen
open Idealize.ShloMosaic Idealize.ShloMosaic.TcCoe
open Idealize.SL.Sem

variable {F : FTy → Type} [FloatOps F]

/-! ## Devices -/

/-- The device `k` places after `c`. -/
def peer (c : Dev nD) (k : ℕ) : Dev nD := ⟨(c.val + k) % 16, Nat.mod_lt _ (by decide)⟩
/-- The device `k` places before `c` (`k` at most 16). -/
def srcOf (c : Dev nD) (k : ℕ) : Dev nD := ⟨(c.val + (16 - k)) % 16, Nat.mod_lt _ (by decide)⟩

theorem tgt_eq_fin : ∀ (c : Dev nD) (k : Fin 16), tgtWord c (BitVec.ofNat 32 k.val) = (c.val + k.val) % 16 := by
  decide +kernel
theorem ofNat16 {k : ℕ} (hk : k < 16) : (Fin.ofNat 16 k).val = k := Nat.mod_eq_of_lt hk
theorem ofNat15 {k : ℕ} (hk : k < 15) : (Fin.ofNat 15 k).val = k := Nat.mod_eq_of_lt hk
theorem tgt_eq (c : Dev nD) {k : ℕ} (hk : k < 16) : tgt c k = peer c k := by
  apply Fin.ext
  show tgtWord c _ = _
  rw [tgt_eq_fin, ofNat16 hk]; rfl

theorem peer_ne (c : Dev nD) {k : ℕ} (h0 : 0 < k) (hk : k < 16) : peer c k ≠ c := by
  intro h
  have := congrArg Fin.val h
  have hc : c.val < 16 := c.isLt
  simp only [peer] at this
  omega
theorem peer_inj (c : Dev nD) {k k' : ℕ} (hk : k < 16) (hk' : k' < 16) (h : peer c k = peer c k') : k = k' := by
  have := congrArg Fin.val h
  have hc : c.val < 16 := c.isLt
  simp only [peer] at this
  omega
theorem peer_srcOf (c : Dev nD) {k : ℕ} (h0 : 0 < k) (hk : k < 16) : peer (srcOf c k) k = c := by
  apply Fin.ext
  have hc : c.val < 16 := c.isLt
  simp only [peer, srcOf]
  omega
theorem srcOf_ne (c : Dev nD) {k : ℕ} (h0 : 0 < k) (hk : k < 16) : srcOf c k ≠ c := by
  intro h
  have := congrArg Fin.val h
  have hc : c.val < 16 := c.isLt
  simp only [srcOf] at this
  omega
theorem srcOf_inj (c : Dev nD) {k k' : ℕ} (h0 : 0 < k) (hk : k < 16) (h0' : 0 < k') (hk' : k' < 16) (h : srcOf c k = srcOf c k') : k = k' := by
  have := congrArg Fin.val h
  have hc : c.val < 16 := c.isLt
  simp only [srcOf] at this
  omega

/-! ## Where the pieces lie -/

theorem off1_eq : ∀ (c : Dev nD) (k : Fin 16), k0_off1 c (BitVec.ofNat 32 k.val) = ![0, 256 * ((c.val + k.val) % 16)] := by
  decide +kernel
theorem off2_eq : ∀ c : Dev nD, k0_off2 c = ![512 * c.val, 0] := by decide +kernel
theorem off4_eq : ∀ c : Dev nD, k0_off4 c = ![512 * c.val, 0] := by decide +kernel

theorem wSem_eq : ∀ p : Fin 2, wSem p = (⟨2 + p.val, by have := p.isLt; show _ < 22; omega⟩ : Fin 22) := by decide
theorem sSem_eq : ∀ p : Fin 2, sSem p = (⟨4 + p.val, by have := p.isLt; show _ < 22; omega⟩ : Fin 22) := by decide
theorem rSem_eq : ∀ j : Dev nD, rSem j = (⟨6 + j.val, by have : j.val < 16 := j.isLt; show _ < 22; omega⟩ : Fin 22) := by decide +kernel
theorem off5_eq : ∀ (c : Dev nD) (r : Fin 15), ((cc0_scratch4.slice (Rect.unit (s := S16) (k0_off5 c (BitVec.ofNat 32 (1 + r.val))) S1.size (k0_off5_inb c r))).squeeze S_ squeezes_S1_S_).sem
    = rSem (srcOf c (r.val + 1)) := by decide +kernel

theorem colInb (d : Dev nD) : ∀ a, (![0, 256 * d.val] : Fin 2 → Nat) a + S8192x256.size a ≤ S8192x4096.size a := by
  revert d; decide
/-- The columns of `w` that belong to device `d`. -/
abbrev colRect (d : Dev nD) : Rect S8192x4096 := Rect.unit (s := S8192x4096) ![0, 256 * d.val] S8192x256.size (colInb d)

omit [FloatOps F] in
theorem read_unit_congr {off off' : Fin 2 → Nat} (h : off = off') (inb : ∀ a, off a + S8192x256.size a ≤ S8192x4096.size a)
    (inb' : ∀ a, off' a + S8192x256.size a ≤ S8192x4096.size a) (f : (main_arg1 : Ref sig .tc).ty.Contents (Elt F)) :
    (wM.slice (Rect.unit (s := S8192x4096) off S8192x256.size inb) (fun _ => rfl)).view.read (Elt F) f
      = (wM.slice (Rect.unit (s := S8192x4096) off' S8192x256.size inb') (fun _ => rfl)).view.read (Elt F) f := by
  subst h; rfl

omit [FloatOps F] in
theorem read_wCol (c : Dev nD) {k : ℕ} (hk : k < 16) (f : (main_arg1 : Ref sig .tc).ty.Contents (Elt F)) :
    (wCol c k).view.read (Elt F) f = (wM.slice (colRect (peer c k)) (fun _ => rfl)).view.read (Elt F) f :=
  read_unit_congr ((off1_eq c (Fin.ofNat 16 k)).trans (by rw [ofNat16 hk]; rfl)) _ _ f

/-! ## The product of a block -/

/-- The product of 512 rows with 256 columns, as the body computes it. -/
def prod (x : Vec F S512x8192 .bf16) (w : Vec F S8192x256 .bf16) : FVec F S512x256 .f32 :=
  matmul dot_S512x8192_S8192x256_S512x256_1_0_0_1_n_n none (shapeCast S512x8192 x shapeCasts_S512x8192_S512x8192) w
    (constant S512x256 .f32 0x00000000#32)

theorem pay1_eq (x : Vec F S512x8192 .bf16) (p : Fin 2) (f : (cc0_scratch0 : Ref sig .tc).ty.Contents (Elt F)) :
    k0_pay1 x (wbM.view.readAt (Elt F) (wbRect p).toLoadRect f) = prod x ((wSlot p).view.read (Elt F) f) := rfl
theorem pay2_eq (x : Vec F S512x8192 .bf16) (p : Fin 2) (f : (cc0_scratch0 : Ref sig .tc).ty.Contents (Elt F)) :
    k0_pay2 x (wbM.view.readAt (Elt F) (wbRect p).toLoadRect f)
      = shapeCast S1x512x256 (prod x ((wSlot p).view.read (Elt F) f)) shapeCasts_S512x256_S1x512x256 := rfl

/-- A slot of the products, stored through the buffer and read through the slot. -/
theorem read_ySlot (p : Fin 2) (f : (cc0_scratch1 : Ref sig .tc).ty.Contents (Elt F)) (v : FVec F S512x256 .f32) :
    (ySlot p).view.read (Elt F) ((ybM.access (ybRect p)).write (Elt F) f (shapeCast S1x512x256 v shapeCasts_S512x256_S1x512x256) Finset.univ) = v := by
  show shapeCast S512x256 ((ybM.access (ybRect p)).read (Elt F)
    ((ybM.access (ybRect p)).write (Elt F) f (shapeCast S1x512x256 v shapeCasts_S512x256_S1x512x256) Finset.univ)) (show S1x512x256.ShapeCasts S512x256 by decide) = v
  rw [View.read_write_univ]
  exact shapeCast_shapeCast v _ _

/-! ## The contents -/

variable (m : (ℓ : Loc nD τ sig) → Buf (Elt F) ℓ)

/-- The rows of `x` device `c` holds. -/
def xs (c : Dev nD) : (cc0_stg0_0 : Ref sig .tc).ty.Contents (Elt F) :=
  (win0_0.blk (0 : Fin 1)).view.read (Elt F) (m ((c : Thread nD τ).loc main_arg0))
/-- The columns of device `c`'s `w` that belong to device `d`. -/
def cols (c d : Dev nD) : Vec F S8192x256 .bf16 :=
  (wM.slice (colRect d) (fun _ => rfl)).view.read (Elt F) (m ((c : Thread nD τ).loc main_arg1))
/-- The block device `c` computes for device `d`. -/
def blkv (c d : Dev nD) : FVec F S512x256 .f32 := prod (xs m c) (cols m c d)

/-- The result of device `d`: its rows `[512 c, 512 c + 512)` are what device `c` computes for it. -/
def outAt (d : Dev nD) : (cc0_stg1_0 : Ref sig .tc).ty.Contents (Elt F) := fun i =>
  have h0 : (i 0).val < 8192 := (i 0).isLt
  have h1 : (i 1).val < 256 := (i 1).isLt
  blkv m (⟨(i 0).val / 512, by show _ < 16; omega⟩ : Fin 16) d
    (fun a => match a with
      | ⟨0, _⟩ => (⟨(i 0).val % 512, Nat.mod_lt _ (by decide)⟩ : Fin 512)
      | ⟨1, _⟩ => (⟨(i 1).val, h1⟩ : Fin 256))

theorem rowM_emb (c : Dev nD) (x : S512x256.Idx) :
    (((rowM c).view.emb x) 0).val = 512 * c.val + (x 0).val ∧ (((rowM c).view.emb x) 1).val = (x 1).val := by
  have h : k0_off4 c = ![512 * c.val, 0] := off4_eq c
  constructor
  · show k0_off4 c 0 + 1 * (x 0).val = _
    rw [h]; show 512 * c.val + 1 * (x 0).val = _; omega
  · show k0_off4 c 1 + 1 * (x 1).val = _
    rw [h]; show 0 + 1 * (x 1).val = _; omega

/-- The result at an element of source `c`'s rows. -/
theorem outAt_row (c d : Dev nD) (x : S512x256.Idx) : outAt m d ((rowM c).view.emb x) = blkv m c d x := by
  obtain ⟨e0, e1⟩ := rowM_emb c x
  have hc : c.val < 16 := c.isLt
  have hx : (x 0).val < 512 := (x 0).isLt
  unfold outAt
  dsimp only
  have hs : (⟨(((rowM c).view.emb x) 0).val / 512, by rw [e0]; show _ < 16; omega⟩ : Fin 16) = c := by
    apply Fin.ext; show (((rowM c).view.emb x) 0).val / 512 = _; rw [e0]; omega
  have hi : (fun a : Fin 2 => match a with
      | ⟨0, _⟩ => (⟨(((rowM c).view.emb x) 0).val % 512, Nat.mod_lt _ (by decide)⟩ : Fin 512)
      | ⟨1, _⟩ => (⟨(((rowM c).view.emb x) 1).val, (((rowM c).view.emb x) 1).isLt⟩ : Fin 256) : S512x256.Idx) = x := by
    funext a
    match a with
    | ⟨0, _⟩ => apply Fin.ext; show (((rowM c).view.emb x) 0).val % 512 = (x 0).val; rw [e0]; omega
    | ⟨1, _⟩ => apply Fin.ext; exact e1
  exact congr (congrFun (congrArg (blkv m) hs) d) hi

/-- Source `c`'s block written into its rows of device `d`'s result is the result there. -/
theorem write_row (c d : Dev nD) (fd : (cc0_stg1_0 : Ref sig .tc).ty.Contents (Elt F)) :
    ∀ i ∈ (rowM c).view.set, (rowM c).view.write (Elt F) fd (blkv m c d) Finset.univ i = outAt m d i := by
  intro i hi
  obtain ⟨x, -, rfl⟩ := Finset.mem_map.mp hi
  rw [View.write_emb_of_mem _ _ (Finset.mem_univ x), outAt_row]
  rfl

theorem ownRect_view (c : Dev nD) : oM.access (ownRect c) = (rowM c).view := by
  have h : ∀ c : Dev nD, k0_off2 c = k0_off4 c := fun c => (off2_eq c).trans (off4_eq c).symm
  have key : ∀ (o : Fin 2 → Nat) (i : ∀ a, o a + S512x256.size a ≤ S8192x256.size a) (o' : Fin 2 → Nat) (i' : ∀ a, o' a + S512x256.size a ≤ S8192x256.size a),
      o = o' → oM.access (Rect.unit (s := S8192x256) o S512x256.size i) = (oM.slice (Rect.unit (s := S8192x256) o' S512x256.size i') (fun _ => rfl)).view := by
    intro o i o' i' h; subst h; rfl
  exact key _ _ _ _ (h c)

/-- The sixteen blocks of rows are disjoint and make the whole result. -/
theorem row_mem (c : Dev nD) (i : S8192x256.Idx) : i ∈ (rowM c).view.set ↔ (i 0).val / 512 = c.val := by
  constructor
  · intro hi
    obtain ⟨x, -, rfl⟩ := Finset.mem_map.mp hi
    have := (rowM_emb c x).1
    have hx : (x 0).val < 512 := (x 0).isLt
    show (((rowM c).view.emb x) 0).val / 512 = _
    rw [this]; omega
  · intro h
    have h1 : (i 1).val < 256 := (i 1).isLt
    let x : S512x256.Idx := fun a => match a with
      | ⟨0, _⟩ => (⟨(i 0).val % 512, Nat.mod_lt _ (by decide)⟩ : Fin 512)
      | ⟨1, _⟩ => (⟨(i 1).val, h1⟩ : Fin 256)
    have hx : (rowM c).view.emb x = i := by
      funext a
      match a with
      | ⟨0, _⟩ => apply Fin.ext; refine (rowM_emb c x).1.trans ?_; show 512 * c.val + (i 0).val % 512 = (i 0).val; omega
      | ⟨1, _⟩ => apply Fin.ext; exact (rowM_emb c x).2
    rw [← hx]; exact View.emb_mem_set _ _

theorem row_disjoint (c c' : Dev nD) (h : c ≠ c') : Disjoint (rowM c).view.set (rowM c').view.set := by
  rw [Finset.disjoint_left]
  intro i h1 h2
  exact h (Fin.ext (((row_mem c i).mp h1).symm.trans ((row_mem c' i).mp h2)))
theorem row_cover : (Finset.univ : Finset (Dev nD)).biUnion (fun c => (rowM c).view.set) = (Finset.univ : Finset S8192x256.Idx) := by
  ext i
  simp only [Finset.mem_biUnion, Finset.mem_univ, true_and, iff_true]
  have h0 : (i 0).val < 8192 := (i 0).isLt
  exact ⟨(⟨(i 0).val / 512, by show _ < 16; omega⟩ : Fin 16), (row_mem _ i).mpr rfl⟩

/-- The two slots of a buffer are disjoint and make it whole. -/
theorem wslot_mem (p : Fin 2) (i : S2x8192x256.Idx) : i ∈ (wSlot p).view.set ↔ (i 0).val = p.val := by
  rw [show (wSlot p).view.set = (wbRect p).set from (View.set_reshape _ _).trans (View.set_slice_whole _ _)]
  rw [← Rect.map_emb_univ, Finset.mem_map]
  constructor
  · rintro ⟨x, -, rfl⟩
    have hx : (x 0).val < 1 := (x 0).isLt
    show p.val + 1 * (x 0).val = _; omega
  · intro h
    refine ⟨fun a => match a with
      | ⟨0, _⟩ => (⟨0, by decide⟩ : Fin 1)
      | ⟨1, _⟩ => (⟨(i 1).val, (i 1).isLt⟩ : Fin 8192)
      | ⟨2, _⟩ => (⟨(i 2).val, (i 2).isLt⟩ : Fin 256), Finset.mem_univ _, ?_⟩
    funext a
    match a with
    | ⟨0, _⟩ => apply Fin.ext; show p.val + 1 * 0 = (i 0).val; omega
    | ⟨1, _⟩ => apply Fin.ext; show 0 + 1 * (i 1).val = (i 1).val; omega
    | ⟨2, _⟩ => apply Fin.ext; show 0 + 1 * (i 2).val = (i 2).val; omega
theorem yslot_mem (p : Fin 2) (i : S2x512x256.Idx) : i ∈ (ySlot p).view.set ↔ (i 0).val = p.val := by
  rw [show (ySlot p).view.set = (ybRect p).set from (View.set_reshape _ _).trans (View.set_slice_whole _ _)]
  rw [← Rect.map_emb_univ, Finset.mem_map]
  constructor
  · rintro ⟨x, -, rfl⟩
    have hx : (x 0).val < 1 := (x 0).isLt
    show p.val + 1 * (x 0).val = _; omega
  · intro h
    refine ⟨fun a => match a with
      | ⟨0, _⟩ => (⟨0, by decide⟩ : Fin 1)
      | ⟨1, _⟩ => (⟨(i 1).val, (i 1).isLt⟩ : Fin 512)
      | ⟨2, _⟩ => (⟨(i 2).val, (i 2).isLt⟩ : Fin 256), Finset.mem_univ _, ?_⟩
    funext a
    match a with
    | ⟨0, _⟩ => apply Fin.ext; show p.val + 1 * 0 = (i 0).val; omega
    | ⟨1, _⟩ => apply Fin.ext; show 0 + 1 * (i 1).val = (i 1).val; omega
    | ⟨2, _⟩ => apply Fin.ext; show 0 + 1 * (i 2).val = (i 2).val; omega

theorem wslot_sdiff : (Finset.univ : Finset S2x8192x256.Idx) \ (wSlot 0).view.set = (wSlot 1).view.set := by
  ext i
  have h0 : (i 0).val < 2 := (i 0).isLt
  rw [Finset.mem_sdiff, wslot_mem 0 i, wslot_mem 1 i]
  show (_ ∧ ¬ (i 0).val = 0) ↔ (i 0).val = 1
  exact ⟨fun h => by have := h.2; omega, fun h => ⟨Finset.mem_univ _, by omega⟩⟩
theorem yslot_sdiff : (Finset.univ : Finset S2x512x256.Idx) \ (ySlot 0).view.set = (ySlot 1).view.set := by
  ext i
  have h0 : (i 0).val < 2 := (i 0).isLt
  rw [Finset.mem_sdiff, yslot_mem 0 i, yslot_mem 1 i]
  show (_ ∧ ¬ (i 0).val = 0) ↔ (i 0).val = 1
  exact ⟨fun h => by have := h.2; omega, fun h => ⟨Finset.mem_univ _, by omega⟩⟩

end Cert.A2A

end
-- ==== Proof.Protocol.lean ====
/-
The protocol, as a schedule of rounds.

Semaphores of device `c`:
* the barrier: one round, one unit from each other device `j`, which hands over `j`'s rows that `c` will write;
* the two fetch semaphores: step `k` uses the one of its slot, in round `k / 2`; it hands back the slot filled with the
  columns of `w`, and the part of `w` read;
* the two departure semaphores: step `k ≥ 1` uses the one of its slot, in round `(k - 1) / 2`; it hands back the slot;
* the sixteen arrival semaphores: number `j ≠ c` has one round, paid by device `j`, which hands over `c`'s rows `j`
  holding what `j` computed for `c`.
-/
module

public import proofs.«01_k».proof.Proof.Blocks

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barCell (c : Dev nD) : GSem nD τ sig := ((c : Thread nD τ), .reg barS)
abbrev wCell (c : Dev nD) (p : Fin 2) : GSem nD τ sig := ((c : Thread nD τ), .dma (wSem p))
abbrev sCell (c : Dev nD) (p : Fin 2) : GSem nD τ sig := ((c : Thread nD τ), .dma (sSem p))
abbrev rCell (c j : Dev nD) : GSem nD τ sig := ((c : Thread nD τ), .dma (rSem j))

/-- What a semaphore is for. -/
inductive Kind where
  | bar
  | fetch (p : Fin 2)
  | depart (p : Fin 2)
  | arrive (j : Fin 16)
  | other
deriving DecidableEq

def kind : SemLoc sig → Kind
  | .reg _ => .bar
  | .dma q => if q.val < 2 then .other else if q.val < 4 then .fetch (par q.val) else if q.val < 6 then .depart (par q.val)
      else .arrive ⟨(q.val + 10) % 16, Nat.mod_lt _ (by decide)⟩

theorem kind_bar : kind (.reg barS) = .bar := rfl
theorem kind_w (p : Fin 2) : kind (.dma (wSem p)) = .fetch p := by revert p; decide
theorem kind_s (p : Fin 2) : kind (.dma (sSem p)) = .depart p := by revert p; decide
theorem kind_r (j : Dev nD) : kind (.dma (rSem j)) = .arrive j := by revert j; decide +kernel

/-- The credit of a block of the product, and of a block of columns. -/
@[irreducible] def N : ℕ := RefSig.tileCredit S512x256 .f32
@[irreducible] def NW : ℕ := RefSig.tileCredit S8192x256 .bf16
theorem N_pos : 0 < N := by unfold N; exact RefSig.tileCredit_pos _ _ (by decide)
theorem NW_pos : 0 < NW := by unfold NW; exact RefSig.tileCredit_pos _ _ (by decide)
theorem credit_y (p : Fin 2) : (ySlot p).view.dmaCredit = N := by unfold N; rfl
theorem credit_row (j : Dev nD) : (rowM j).view.dmaCredit = N := by unfold N; rfl
theorem credit_w (p : Fin 2) : (wSlot p).view.dmaCredit = NW := by unfold NW; rfl

/-! ## What is held -/

/-- The one duty of a round that has a single payer. -/
def d0 : Dev nD := (0 : Fin 16)

def wPts (c : Dev nD) (p : Fin 2) (f : Buf (Elt F) ((wSlot p).view.loc (c : Thread nD τ))) : sProp 𝕄 :=
  (wSlot p).view.loc (c : Thread nD τ) ↦[(wSlot p).view.set]{fullShare} f
def yPts (c : Dev nD) (p : Fin 2) (f : Buf (Elt F) ((ySlot p).view.loc (c : Thread nD τ))) : sProp 𝕄 :=
  (ySlot p).view.loc (c : Thread nD τ) ↦[(ySlot p).view.set]{fullShare} f
/-- Source `j`'s rows of device `c`'s result. -/
def rowPts (c j : Dev nD) (f : Buf (Elt F) ((rowM j).view.loc (c : Thread nD τ))) : sProp 𝕄 :=
  (rowM j).view.loc (c : Thread nD τ) ↦[(rowM j).view.set]{fullShare} f
/-- The share of `w` the fetches of a slot read with. -/
def shr (p : Fin 2) : PosShare TreeShare := if p = 0 then fullShare.left else fullShare.right
/-- The columns step `k` reads, and all of `w`, at the slot's share. -/
def colPts (c : Dev nD) (k : ℕ) : sProp 𝕄 :=
  (wCol c k).view.loc (c : Thread nD τ) ↦[(wCol c k).view.set]{shr (par k)} m ((c : Thread nD τ).loc main_arg1)
def argPts (c : Dev nD) (p : Fin 2) : sProp 𝕄 :=
  ((c : Thread nD τ).loc main_arg1) ↦{shr p} m ((c : Thread nD τ).loc main_arg1)
/-- The slot after step `k`'s fetch. -/
def wFull (c : Dev nD) (k : ℕ) : sProp 𝕄 :=
  iprop(∃ f, wPts c (par k) ((wSlot (par k)).view.write (Elt F) f (cols m c (peer c k)) Finset.univ))
def fetchPay (c : Dev nD) (k : ℕ) : sProp 𝕄 := iprop(wFull m c k ∗ colPts m c k)
def yAny (c : Dev nD) (p : Fin 2) : sProp 𝕄 := iprop(∃ f, yPts c p f)
def rowAny (c j : Dev nD) : sProp 𝕄 := iprop(∃ f, rowPts c j f)
def rowDone (c j : Dev nD) : sProp 𝕄 := rowPts c j (outAt m c)

/-! ## The schedule -/

def pay (c : Dev nD) (r : ℕ) (d : Dev nD) : Kind → sProp 𝕄
  | .bar => rowAny d c
  | .fetch p => fetchPay m c (2 * r + p.val)
  | .depart p => yAny c p
  | .arrive j => rowDone m c j
  | .other => iprop(emp)

def dut (c : Dev nD) (r : ℕ) : Kind → Finset (Dev nD)
  | .bar => if r = 0 then Finset.univ.erase c else ∅
  | .fetch _ => if r < 8 then {d0} else ∅
  | .depart p => if 2 * r + 2 < 16 + p.val then {d0} else ∅
  | .arrive j => if r = 0 ∧ j ≠ c then {d0} else ∅
  | .other => ∅

def amt : Kind → ℕ
  | .bar => 1
  | .fetch _ => NW
  | .depart _ => N
  | .arrive _ => N
  | .other => 1

def sched : Rounds.Schedule (GSem nD τ sig) (Dev nD) 𝕄 where
  duties g r := if g.1.2 = .tc then dut g.1.1 r (kind g.2) else ∅
  unitless _ := False
  amount g _ _ := amt (kind g.2)
  payload g r d := pay m g.1.1 r d (kind g.2)
  amount_pos g _ _ _ := by
    cases kind g.2
    · exact Nat.one_pos
    · exact NW_pos
    · exact N_pos
    · exact N_pos
    · exact Nat.one_pos

instance sched_storable (g : GSem nD τ sig) (r : ℕ) (d : Dev nD) :
    BI.Storable (upEmb : UEmb _ 𝕄) ((sched (F := F) m).payload g r d) := by
  show BI.Storable upEmb (pay m g.1.1 r d (kind g.2))
  cases kind g.2
  · unfold pay; dsimp only; unfold rowAny rowPts; infer_instance
  · unfold pay; dsimp only; unfold fetchPay wFull colPts wPts; infer_instance
  · unfold pay; dsimp only; unfold yAny yPts; infer_instance
  · unfold pay; dsimp only; unfold rowDone rowPts; infer_instance
  · unfold pay; dsimp only; infer_instance

theorem par_mul (k : ℕ) : 2 * (k / 2) + (par k).val = k := by
  show 2 * (k / 2) + k % 2 = k; omega

section Sched
variable (c : Dev nD)

theorem duties_bar : (sched (F := F) m).duties (barCell c) 0 = Finset.univ.erase c := rfl
theorem duties_bar_later (r : ℕ) (h : 1 ≤ r) : (sched (F := F) m).duties (barCell c) r = ∅ := by
  show dut c r .bar = ∅
  exact if_neg (by omega)
theorem duties_w (p : Fin 2) (r : ℕ) : (sched (F := F) m).duties (wCell c p) r = if r < 8 then {d0} else ∅ := by
  show dut c r (kind (.dma (wSem p))) = _
  rw [kind_w]; rfl
theorem duties_s (p : Fin 2) (r : ℕ) : (sched (F := F) m).duties (sCell c p) r = if 2 * r + 2 < 16 + p.val then {d0} else ∅ := by
  show dut c r (kind (.dma (sSem p))) = _
  rw [kind_s]; rfl
theorem duties_r (j : Dev nD) (r : ℕ) : (sched (F := F) m).duties (rCell c j) r = if r = 0 ∧ j ≠ c then {d0} else ∅ := by
  show dut c r (kind (.dma (rSem j))) = _
  rw [kind_r]; rfl

theorem amount_bar (r : ℕ) (d : Dev nD) : (sched (F := F) m).amount (barCell c) r d = 1 := rfl
theorem amount_w (p : Fin 2) (r : ℕ) (d : Dev nD) : (sched (F := F) m).amount (wCell c p) r d = NW := by
  show amt (kind (.dma (wSem p))) = _
  rw [kind_w]; rfl
theorem amount_s (p : Fin 2) (r : ℕ) (d : Dev nD) : (sched (F := F) m).amount (sCell c p) r d = N := by
  show amt (kind (.dma (sSem p))) = _
  rw [kind_s]; rfl
theorem amount_r (j : Dev nD) (r : ℕ) (d : Dev nD) : (sched (F := F) m).amount (rCell c j) r d = N := by
  show amt (kind (.dma (rSem j))) = _
  rw [kind_r]; rfl

theorem payload_bar (r : ℕ) (d : Dev nD) : (sched (F := F) m).payload (barCell c) r d = rowAny d c := rfl
theorem payload_w (k : ℕ) (d : Dev nD) : (sched (F := F) m).payload (wCell c (par k)) (k / 2) d = fetchPay m c k := by
  show pay m c (k / 2) d (kind (.dma (wSem (par k)))) = _
  rw [kind_w]
  show fetchPay m c (2 * (k / 2) + (par k).val) = _
  rw [par_mul]
theorem payload_s (p : Fin 2) (r : ℕ) (d : Dev nD) : (sched (F := F) m).payload (sCell c p) r d = yAny c p := by
  show pay m c r d (kind (.dma (sSem p))) = _
  rw [kind_s]; rfl
theorem payload_r (j : Dev nD) (r : ℕ) (d : Dev nD) : (sched (F := F) m).payload (rCell c j) r d = rowDone m c j := by
  show pay m c r d (kind (.dma (rSem j))) = _
  rw [kind_r]; rfl

theorem expect_bar : (sched (F := F) m).expect (barCell c) 0 = 15 := by
  unfold Schedule.expect Schedule.amountOf
  rw [duties_bar, Finset.sum_congr rfl fun d _ => amount_bar m c 0 d, Finset.sum_const, Finset.card_erase_of_mem (Finset.mem_univ _)]
  rfl
theorem expect_w (p : Fin 2) {r : ℕ} (h : r < 8) : (sched (F := F) m).expect (wCell c p) r = NW := by
  unfold Schedule.expect Schedule.amountOf
  rw [duties_w, if_pos h, Finset.sum_singleton, amount_w]
theorem expect_s (p : Fin 2) {r : ℕ} (h : 2 * r + 2 < 16 + p.val) : (sched (F := F) m).expect (sCell c p) r = N := by
  unfold Schedule.expect Schedule.amountOf
  rw [duties_s, if_pos h, Finset.sum_singleton, amount_s]
theorem expect_r {j : Dev nD} (h : j ≠ c) : (sched (F := F) m).expect (rCell c j) 0 = N := by
  unfold Schedule.expect Schedule.amountOf
  rw [duties_r, if_pos ⟨rfl, h⟩, Finset.sum_singleton, amount_r]

theorem rest_bar : bigSep ((sched (F := F) m).duties (barCell c) 0 \ ∅) (fun d => (sched (F := F) m).payload (barCell c) 0 d)
    = bigSep (Finset.univ.erase c) fun d => rowAny d c := by
  rw [Finset.sdiff_empty]; rfl
theorem rest_w (k : ℕ) (h : k < 16) : bigSep ((sched (F := F) m).duties (wCell c (par k)) (k / 2) \ ∅)
    (fun d => (sched (F := F) m).payload (wCell c (par k)) (k / 2) d) = fetchPay m c k := by
  rw [Finset.sdiff_empty, duties_w, if_pos (by omega), bigSep_singleton, payload_w]
theorem rest_s (p : Fin 2) {r : ℕ} (h : 2 * r + 2 < 16 + p.val) : bigSep ((sched (F := F) m).duties (sCell c p) r \ ∅)
    (fun d => (sched (F := F) m).payload (sCell c p) r d) = yAny c p := by
  rw [Finset.sdiff_empty, duties_s, if_pos h, bigSep_singleton, payload_s]
theorem rest_r {j : Dev nD} (h : j ≠ c) : bigSep ((sched (F := F) m).duties (rCell c j) 0 \ ∅)
    (fun d => (sched (F := F) m).payload (rCell c j) 0 d) = rowDone m c j := by
  rw [Finset.sdiff_empty, duties_r, if_pos ⟨rfl, h⟩, bigSep_singleton, payload_r]

end Sched

/-! ## What a device owes, and the levels -/

/-- The arrivals device `c` owes from step `k` on, and the signals from the `k`-th on. -/
def oweR (c : Dev nD) (k : ℕ) : CellTallies nD τ sig Unit := ∑ j ∈ Finset.Ico k 16, tallyAt (rCell (peer c j) c) () N
def oweB (c : Dev nD) (k : ℕ) : CellTallies nD τ sig Unit := ∑ j ∈ Finset.Ico k 16, tallyAt (barCell (peer c j)) () 1
def O₀ (c : Dev nD) : CellTallies nD τ sig Unit := oweR c 1 + oweB c 1

theorem Ico_bot {a b : ℕ} (h : a < b) : Finset.Ico a b = insert a (Finset.Ico (a + 1) b) := by
  ext x; simp only [Finset.mem_Ico, Finset.mem_insert]; omega
theorem oweR_succ (c : Dev nD) {k : ℕ} (h : k < 16) : oweR c k = oweR c (k + 1) + tallyAt (rCell (peer c k) c) () N := by
  unfold oweR; rw [Ico_bot h, Finset.sum_insert (by simp), add_comm]
theorem oweB_succ (c : Dev nD) {k : ℕ} (h : k < 16) : oweB c k = oweB c (k + 1) + tallyAt (barCell (peer c k)) () 1 := by
  unfold oweB; rw [Ico_bot h, Finset.sum_insert (by simp), add_comm]
theorem oweR_end (c : Dev nD) : oweR c 16 = 0 := by unfold oweR; rw [Finset.Ico_self, Finset.sum_empty]
theorem oweB_end (c : Dev nD) : oweB c 16 = 0 := by unfold oweB; rw [Finset.Ico_self, Finset.sum_empty]

def L (g : GSem nD τ sig) : Finset Unit := if g.1.2 = .tc then {()} else ∅
def lvOf : Kind → ℕ
  | .bar => 1
  | .arrive _ => 2
  | _ => 0
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl

theorem sum_tally_pos {T : Finset ℕ} {cell : ℕ → GSem nD τ sig} {n : ℕ} {g : GSem nD τ sig} {u : Unit}
    (h : 0 < (∑ j ∈ T, (tallyAt (cell j) () n : CellTallies nD τ sig Unit)) g u) : ∃ j ∈ T, g = cell j := by
  by_contra hn
  have hz : ∀ j ∈ T, (tallyAt (cell j) () n : CellTallies nD τ sig Unit) g u = 0 := fun j hj => by
    rw [tallyAt_apply, if_neg (fun e => hn ⟨j, hj, e.1⟩)]
  rw [Finset.sum_apply, Finsupp.finset_sum_apply, Finset.sum_eq_zero hz] at h
  exact Nat.lt_irrefl 0 h

theorem oweR_pos {c : Dev nD} {k : ℕ} {g : GSem nD τ sig} {u : Unit} (h : 0 < oweR c k g u) : ∃ d : Dev nD, g = rCell d c := by
  obtain ⟨j, -, e⟩ := sum_tally_pos h; exact ⟨_, e⟩
theorem oweB_pos {c : Dev nD} {k : ℕ} {g : GSem nD τ sig} {u : Unit} (h : 0 < oweB c k g u) : ∃ d : Dev nD, g = barCell d := by
  obtain ⟨j, -, e⟩ := sum_tally_pos h; exact ⟨_, e⟩
theorem owe_pos {c : Dev nD} {k l : ℕ} {g : GSem nD τ sig} {u : Unit} (h : 0 < (oweR c k + oweB c l) g u) :
    (∃ d : Dev nD, g = rCell d c) ∨ ∃ d : Dev nD, g = barCell d := by
  rw [Pi.add_apply, Finsupp.add_apply] at h
  rcases Nat.add_pos_iff_pos_or_pos.mp h with h | h
  · exact .inl (oweR_pos h)
  · exact .inr (oweB_pos h)

theorem lv_r (d c : Dev nD) (u : Unit) : lv (rCell d c) u = 2 := by
  show lvOf (kind (.dma (rSem c))) = 2; rw [kind_r]; rfl
theorem lv_bar (d : Dev nD) (u : Unit) : lv (barCell d) u = 1 := rfl

/-- A wait on a fetch, a departure or a staging semaphore is below everything owed. -/
theorem mayWait_low (c : Dev nD) (sm : SemLoc sig) (h : lvOf (kind sm) = 0) (k l : ℕ) :
    (levAts L lv : sProp 𝕄) ⊢ MayWait (c : Thread nD τ) sm () (oweR c k + oweB c l) :=
  MayOwe.of_cut (L := L) (lev := lv) 0 (fun p hp => by rw [Finset.mem_singleton.mp hp, L_tc]; exact Finset.mem_singleton_self _)
    (fun g u hg => by rcases owe_pos hg with ⟨d, rfl⟩ | ⟨d, rfl⟩ <;> (rw [L_tc]; exact Finset.mem_singleton_self _))
    (fun p hp => by rw [Finset.mem_singleton.mp hp]; exact le_of_eq h)
    (fun g u hg => by
      rcases owe_pos hg with ⟨d, rfl⟩ | ⟨d, rfl⟩
      · rw [lv_r]; decide
      · rw [lv_bar]; decide)

/-- At its barrier a device owes arrivals only. -/
theorem mayWait_bar (c : Dev nD) (k : ℕ) : (levAts L lv : sProp 𝕄) ⊢ MayWait (c : Thread nD τ) (.reg barS) () (oweR c k) :=
  MayOwe.of_cut (L := L) (lev := lv) 1 (fun p hp => by rw [Finset.mem_singleton.mp hp, L_tc]; exact Finset.mem_singleton_self _)
    (fun g u hg => by obtain ⟨d, rfl⟩ := oweR_pos hg; rw [L_tc]; exact Finset.mem_singleton_self _)
    (fun p hp => by rw [Finset.mem_singleton.mp hp]; exact le_of_eq (lv_bar c ()))
    (fun g u hg => by obtain ⟨d, rfl⟩ := oweR_pos hg; rw [lv_r]; decide)

theorem mayWait_dma (c : Dev nD) (sm : SemLoc sig) (h : lvOf (kind sm) = 0) (k : ℕ) :
    (levAts L lv : sProp 𝕄) ⊢ MayWait (c : Thread nD τ) sm () (oweR c k) := by
  have := mayWait_low (F := F) c sm h k 16
  rwa [oweB_end, add_zero] at this

/-- The levels, as one fact. -/
@[irreducible] def lvls : sProp 𝕄 := levAts L lv
instance lvls_persistent : BI.Persistent (lvls (F := F)) := by unfold lvls; infer_instance
theorem low_bar (c : Dev nD) (k : ℕ) : (lvls : sProp 𝕄) ⊢ MayWait (c : Thread nD τ) (.reg barS) () (oweR c k) := by
  unfold lvls; exact mayWait_bar c k
theorem low_dma (c : Dev nD) (sm : SemLoc sig) (h : lvOf (kind sm) = 0) (k : ℕ) :
    (lvls : sProp 𝕄) ⊢ MayWait (c : Thread nD τ) sm () (oweR c k) := by
  unfold lvls; exact mayWait_dma c sm h k
theorem low_w (p : Fin 2) : lvOf (kind (.dma (wSem p))) = 0 := by rw [kind_w]; rfl
theorem low_s (p : Fin 2) : lvOf (kind (.dma (sSem p))) = 0 := by rw [kind_s]; rfl

/-! ## The cells' invariants, at the names they were allocated under -/

/-- The semaphores of the protocol: the barrier, then the twenty of the kernel's own. -/
def csem (i : Fin 21) : SemLoc sig := if i.val = 0 then .reg barS else .dma (⟨i.val + 1, by have := i.isLt; show _ < 22; omega⟩ : Fin 22)
abbrev kcell (ck : Dev nD × Fin 21) : GSem nD τ sig := ((ck.1 : Thread nD τ), csem ck.2)
def ixW (p : Fin 2) : Fin 21 := ⟨1 + p.val, by have := p.isLt; omega⟩
def ixS (p : Fin 2) : Fin 21 := ⟨3 + p.val, by have := p.isLt; omega⟩
def ixR (j : Dev nD) : Fin 21 := ⟨5 + j.val, by have : j.val < 16 := j.isLt; omega⟩
theorem csem_bar : csem 0 = .reg barS := rfl
theorem csem_w (p : Fin 2) : csem (ixW p) = .dma (wSem p) := by revert p; decide
theorem csem_s (p : Fin 2) : csem (ixS p) = .dma (sSem p) := by revert p; decide
theorem csem_r (j : Dev nD) : csem (ixR j) = .dma (rSem j) := by revert j; decide +kernel

variable (K : Dev nD × Fin 21 → ℕ)

def records : sProp 𝕄 :=
  iprop((bigSep Finset.univ fun ck : Dev nD × Fin 21 => cellInv ER (sched m) (K ck) (kcell ck))
    ∗ bigSep Finset.univ fun ck : Dev nD × Fin 21 => reached ER (kcell ck) 0)
instance records_persistent : BI.Persistent (records m K) := by unfold records; infer_instance

theorem inv_elim (ck : Dev nD × Fin 21) :
    (bigSep Finset.univ fun ck : Dev nD × Fin 21 => (cellInv ER (sched m) (K ck) (kcell ck) : sProp 𝕄)) ⊢ cellInv ER (sched m) (K ck) (kcell ck) :=
  bigSep_elim (Finset.mem_univ ck)
theorem reached_elim (ck : Dev nD × Fin 21) :
    (bigSep Finset.univ fun ck : Dev nD × Fin 21 => (reached ER (kcell ck) 0 : sProp 𝕄)) ⊢ reached ER (kcell ck) 0 :=
  bigSep_elim (Finset.mem_univ ck)
theorem inv_at (ck : Dev nD × Fin 21) : records m K ⊢ cellInv ER (sched m) (K ck) (kcell ck) := by
  unfold records; iintro ⟨H, -⟩
  iapply (inv_elim m K ck); iexact H
theorem reached_at (ck : Dev nD × Fin 21) : records m K ⊢ reached ER (kcell ck) 0 := by
  unfold records; iintro ⟨-, H⟩
  iapply (reached_elim (F := F) ck); iexact H

theorem inv_bar (c : Dev nD) : records m K ⊢ cellInv ER (sched m) (K (c, 0)) (barCell c) := inv_at m K (c, 0)
theorem inv_w (c : Dev nD) (p : Fin 2) : records m K ⊢ cellInv ER (sched m) (K (c, ixW p)) (wCell c p) := by
  have := inv_at m K (c, ixW p); unfold kcell at this; dsimp only at this; rwa [csem_w] at this
theorem inv_s (c : Dev nD) (p : Fin 2) : records m K ⊢ cellInv ER (sched m) (K (c, ixS p)) (sCell c p) := by
  have := inv_at m K (c, ixS p); unfold kcell at this; dsimp only at this; rwa [csem_s] at this
theorem inv_r (c j : Dev nD) : records m K ⊢ cellInv ER (sched m) (K (c, ixR j)) (rCell c j) := by
  have := inv_at m K (c, ixR j); unfold kcell at this; dsimp only at this; rwa [csem_r] at this
theorem reached_bar (c : Dev nD) : records m K ⊢ reached ER (barCell c) 0 := reached_at m K (c, 0)
theorem reached_w (c : Dev nD) (p : Fin 2) : records m K ⊢ reached ER (wCell c p) 0 := by
  have := reached_at m K (c, ixW p); unfold kcell at this; dsimp only at this; rwa [csem_w] at this
theorem reached_s (c : Dev nD) (p : Fin 2) : records m K ⊢ reached ER (sCell c p) 0 := by
  have := reached_at m K (c, ixS p); unfold kcell at this; dsimp only at this; rwa [csem_s] at this
theorem reached_r (c j : Dev nD) : records m K ⊢ reached ER (rCell c j) 0 := by
  have := reached_at m K (c, ixR j); unfold kcell at this; dsimp only at this; rwa [csem_r] at this

end Cert.A2A

end
-- ==== Proof.Steps.lean ====
/-
One rule for each piece of the body.

Each rule says what a device must hold before the piece and what it holds after it, for a symbolic device and step.
-/
module

public import proofs.«01_k».proof.Proof.Protocol

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 21 → ℕ)

abbrev 𝒱₀ : Variants := Variants.none

/-- The program `p` on device `c` ends with `Q`. -/
abbrev Wp (c : Dev nD) (p : Pg F) (Q : PUnit → sProp 𝕄) : sProp 𝕄 :=
  wp frame (wpE (defs₀ (F := F)) 𝒱₀ (c : Thread nD τ) none) Set.univ p Q

/-! ## What a device holds between the pieces -/

/-- What everyone knows: the semaphores' invariants and the levels. -/
def ctx : sProp 𝕄 := iprop(records m K ∗ lvls)
instance ctx_persistent : BI.Persistent (ctx m K) := by unfold ctx; infer_instance

theorem ctx_rec : ctx m K ⊢ records m K := by unfold ctx; iintro ⟨H, -⟩; iexact H
theorem ctx_lev : ctx m K ⊢ lvls := by unfold ctx; iintro ⟨-, H⟩; iexact H

/-- Device `c` owes `O`. -/
def Ow (c : Dev nD) (O : CellTallies nD τ sig Unit) : sProp 𝕄 := iprop(∃ W, owes (c : Thread nD τ) O W)

/-- The rows of `x`, in the staging buffer. -/
def xPts (c : Dev nD) : sProp 𝕄 := ((c : Thread nD τ).loc cc0_stg0_0) ↦{fullShare} xs m c

/-- Slot `p` of the columns, free, its semaphore before round `r`. -/
def wFree (c : Dev nD) (p : Fin 2) (r : ℕ) : sProp 𝕄 :=
  iprop((∃ f, wPts c p f) ∗ argPts m c p ∗ atPos ER (wCell c p) r ∅ 0 ∗ reached ER (wCell c p) r)
/-- What is left of `w` while step `k`'s columns are read. -/
def argRest (c : Dev nD) (k : ℕ) : sProp 𝕄 :=
  (wCol c k).view.loc (c : Thread nD τ) ↦[Finset.univ \ (wCol c k).view.set]{shr (par k)} m ((c : Thread nD τ).loc main_arg1)
/-- Step `k`'s fetch is under way. -/
def wFly (c : Dev nD) (k : ℕ) : sProp 𝕄 :=
  iprop(cred (tallyAt (wCell c (par k)) () NW) ∗ argRest m c k ∗ atPos ER (wCell c (par k)) (k / 2) ∅ 0)
/-- Slot `p` of the products, free, its semaphore before round `r`. -/
def yFree (c : Dev nD) (p : Fin 2) (r : ℕ) : sProp 𝕄 :=
  iprop(yAny c p ∗ atPos ER (sCell c p) r ∅ 0 ∗ reached ER (sCell c p) r)
/-- Slot `p` of the products is being sent, in round `r`. -/
def yFly (c : Dev nD) (p : Fin 2) (r : ℕ) : sProp 𝕄 :=
  iprop(cred (tallyAt (sCell c p) () N) ∗ atPos ER (sCell c p) r ∅ 0)

def tokB (c : Dev nD) (k : ℕ) : sProp 𝕄 := dutyTok ER (barCell (peer c k)) 0 c
def tokW (c : Dev nD) (k : ℕ) : sProp 𝕄 := dutyTok ER (wCell c (par k)) (k / 2) d0
def tokS (c : Dev nD) (k : ℕ) : sProp 𝕄 := dutyTok ER (sCell c (par k)) ((k - 1) / 2) d0
def tokR (c : Dev nD) (k : ℕ) : sProp 𝕄 := dutyTok ER (rCell (peer c k) c) 0 d0

/-- `w` is what the slot reads after step `k`'s fetch. -/
def IsCols (c : Dev nD) (k : ℕ) (w : Vec F S1x8192x256 .bf16) : Prop :=
  ∃ g : (cc0_scratch0 : Ref sig .tc).ty.Contents (Elt F), w = wbM.view.readAt (Elt F) (wbRect (par k)).toLoadRect g
    ∧ (wSlot (par k)).view.read (Elt F) g = cols m c (peer c k)

/-! ## Signal and barrier -/

theorem wp_sig (c n : Dev nD) {k : ℕ} (hn : n = peer c k) (h0 : 0 < k) (hk : k < 16) (r : Pg F) (Q : PUnit → sProp 𝕄) :
    iprop(ctx m K ∗ Ow c (oweR c 1 + oweB c k) ∗ tokB c k ∗ rowAny c (peer c k))
      ⊢ iprop((Ow c (oweR c 1 + oweB c (k + 1)) -∗ Wp c r Q) -∗ Wp c (.op (.semSignal (Dev.tc n) barS 1) fun _ => r) Q) := by
  subst hn
  unfold Ow tokB
  iintro ⟨#Hc, ⟨%W, HO⟩, Ht, Hr⟩ Hk
  ihave #Hrec := (ctx_rec m K) $$ Hc
  iapply (Rounds.wp_signal 𝒱₀ ER (sched m) (c : Thread nD τ) none (dst := (peer c k : Thread nD τ)) (κ := K (peer c k, 0))
      (d := c) (r := 0) (by rw [duties_bar]; exact Finset.mem_erase.mpr ⟨(peer_ne c h0 hk).symm, Finset.mem_univ _⟩)
      (amount_bar m (peer c k) 0 c) () (O₀ := oweR c 1 + oweB c k) (oweR c 1 + oweB c (k + 1)) (by rw [oweB_succ c hk, add_assoc])) $$ [HO Ht Hr]
  · isplitr; · iapply (inv_bar m K (peer c k)); iexact Hrec
    isplitl [HO]; · iexact HO
    isplitl [Ht]; · iexact Ht
    isplitl [Hr]; · rw [payload_bar]; iexact Hr
    iapply (reached_bar m K (peer c k)); iexact Hrec
  iintro HO
  iapply Hk
  iexists W; iexact HO

theorem wp_bar (c : Dev nD) (r : Pg F) (Q : PUnit → sProp 𝕄) :
    iprop(ctx m K ∗ Ow c (oweR c 1) ∗ cred (tallyAt (barCell c) () 15) ∗ atPos ER (barCell c) 0 ∅ 0)
      ⊢ iprop(((Ow c (oweR c 1) ∗ atPos ER (barCell c) 1 ∅ 0 ∗ bigSep (Finset.univ.erase c) fun d => rowAny d c) -∗ Wp c r Q)
        -∗ Wp c (barT r) Q) := by
  unfold Ow
  iintro ⟨#Hc, ⟨%W, HO⟩, Hcr, Hat⟩ Hk
  ihave #Hrec := (ctx_rec m K) $$ Hc
  iapply (Rounds.wp_wait_rest_token 𝒱₀ ER (sched m) (c : Thread nD τ) none (κ := K (c, 0))
      (wpE_semWait_eq 𝒱₀ (c : Thread nD τ) none Set.univ) (Set.mem_univ _) () (O := oweR c 1) (W := W) (R := 0) (m := 0) (T := ∅)
      (by rw [expect_bar])) $$ [Hcr HO Hat]
  · isplitr; · iapply (inv_bar m K c); iexact Hrec
    isplitl [Hcr]; · iexact Hcr
    isplitl [HO]; · iexact HO
    isplitr; · iapply (low_bar (F := F) c 1); iapply (ctx_lev m K); iexact Hc
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## Fetch and product -/

theorem arg_split (c : Dev nD) (k : ℕ) : argPts m c (par k) ⊣⊢ iprop(colPts m c k ∗ argRest m c k) :=
  pointsTo_split_subset (Finset.subset_univ _)

theorem fetch_pay (c : Dev nD) {k : ℕ} (hk : k < 16) (fd : Buf (Elt F) ((wSlot (par k)).view.loc (c : Thread nD τ))) :
    iprop(((wSlot (par k)).view.loc (c : Thread nD τ) ↦[(wSlot (par k)).view.set]{fullShare}
        ((wSlot (par k)).view.write (Elt F) fd ((wCol c k).view.read (Elt F) (m ((c : Thread nD τ).loc main_arg1))) Finset.univ))
      ∗ ((wCol c k).view.loc (c : Thread nD τ) ↦[(wCol c k).view.set]{shr (par k)} m ((c : Thread nD τ).loc main_arg1)))
      ⊢ (sched m).payload (wCell c (par k)) (k / 2) d0 := by
  rw [payload_w]; unfold fetchPay wFull colPts wPts
  iintro ⟨H1, H2⟩
  isplitl [H1]
  · iexists fd
    rw [read_wCol c hk]
    iexact H1
  iexact H2

theorem wp_fetch (c : Dev nD) {k : ℕ} (hk : k < 16) (r : Pg F) (Q : PUnit → sProp 𝕄) :
    iprop(ctx m K ∗ wFree m c (par k) (k / 2) ∗ tokW c k)
      ⊢ iprop((wFly m c k -∗ Wp c r Q) -∗ Wp c (fetchT c k r) Q) := by
  unfold wFree wFly tokW
  iintro ⟨#Hc, ⟨⟨%f, Hw⟩, Harg, Hat, Hre⟩, Ht⟩ Hk
  ihave #Hrec := (ctx_rec m K) $$ Hc
  ihave Ha := (arg_split m c k).1 $$ Harg
  icases Ha with ⟨Hcol, Hrest⟩
  unfold wPts colPts
  iapply (Rounds.wp_copy_pointsTo 𝒱₀ ER (sched m) (c : Thread nD τ) none (src := wCol c k) (dst := wSlot (par k)) (sem := .dma (wSem (par k)))
      (q := shr (par k)) (fs := m ((c : Thread nD τ).loc main_arg1)) (fd := f) (r := k / 2) (d := d0) (κ := K (c, ixW (par k)))
      (by rw [duties_w, if_pos (by omega)]; exact Finset.mem_singleton_self _) () NW (credit_w (par k)) (amount_w m c (par k) (k / 2) d0)
      (fetch_pay m c hk f)) $$ [Hw Hcol Ht Hre]
  · isplitr; · iapply (inv_w m K c (par k)); iexact Hrec
    isplitl [Hcol]; · iexact Hcol
    isplitl [Hw]; · iexact Hw
    isplitl [Ht]; · iexact Ht
    iexact Hre
  iintro Hcr
  iapply Hk
  isplitl [Hcr]; · iexact Hcr
  isplitl [Hrest]; · iexact Hrest
  iexact Hat

theorem read_x (f : (cc0_stg0_0 : Ref sig .tc).ty.Contents (Elt F)) : xM.view.readAt (Elt F) xRect.toLoadRect f = f :=
  Memref.readAt_unit_zero (Elt F) cc0_stg0_0 (funext fun a => by fin_cases a <;> rfl) _ f

theorem wb_loads (p : Fin 2) : wbM.view.setOn (wbRect p).toLoadRect.set ⊆ (wSlot p).view.set := by
  rw [show (wSlot p).view.set = (wbRect p).set from (View.set_reshape _ _).trans (View.set_slice_whole _ _)]
  intro i hi
  obtain ⟨x, hx, rfl⟩ := Finset.mem_map.mp hi
  exact hx

theorem wp_mul (c : Dev nD) {k : ℕ} (hk : k < 16) (l : ℕ) (r : Vec F S512x8192 .bf16 → Vec F S1x8192x256 .bf16 → Pg F) (Q : PUnit → sProp 𝕄) :
    iprop(ctx m K ∗ wFly m c k ∗ Ow c (oweR c l) ∗ xPts m c)
      ⊢ iprop((∀ w, ⌜IsCols m c k w⌝ -∗ (wFree m c (par k) (k / 2 + 1) ∗ Ow c (oweR c l) ∗ xPts m c) -∗ Wp c (r (xs m c) w) Q)
        -∗ Wp c (mulT c k r) Q) := by
  unfold wFree wFly Ow xPts
  iintro ⟨#Hc, ⟨Hcr, Hrest, Hat⟩, ⟨%W, HO⟩, Hx⟩ Hk
  ihave #Hrec := (ctx_rec m K) $$ Hc
  iapply (Rounds.wp_wait_rest_token 𝒱₀ ER (sched m) (c : Thread nD τ) none (κ := K (c, ixW (par k))) (sm := .dma (wSem (par k))) (k' := NW)
      (by intro Kt; rw [← credit_w (par k)]; exact wpE_waitDma2_eq 𝒱₀ (c : Thread nD τ) none Set.univ Kt) (Set.mem_univ _) () (O := oweR c l) (W := W) (R := k / 2) (m := 0) (T := ∅)
      (by rw [expect_w m c (par k) (by omega), Nat.zero_add])) $$ [Hcr HO Hat]
  · isplitr; · iapply (inv_w m K c (par k)); iexact Hrec
    isplitl [Hcr]; · iexact Hcr
    isplitl [HO]; · iexact HO
    isplitr; · iapply (low_dma (F := F) c _ (low_w (par k)) l); iapply (ctx_lev m K); iexact Hc
    iexact Hat
  iintro ⟨HO, Hat, Hre, Hpay⟩
  ihave Hp := (Entails.of_eq (rest_w m c k hk)) $$ Hpay
  unfold fetchPay wFull wPts
  icases Hp with ⟨⟨%f, Hw⟩, Hcol⟩
  iapply (wp_load 𝒱₀ (c : Thread nD τ) none Set.univ (m := xM) (Finset.subset_univ _)) $$ Hx; iintro Hx
  rw [read_x]
  iapply (wp_load 𝒱₀ (c : Thread nD τ) none Set.univ (m := wbM) (wb_loads (par k))) $$ Hw; iintro Hw
  ispecialize Hk $$ %_
  iapply Hk
  · ipureintro
    exact ⟨_, rfl, View.read_write_univ _ _⟩
  isplitl [Hw Hcol Hrest Hat Hre]
  · isplitl [Hw]; · iexists _; iexact Hw
    isplitl [Hcol Hrest]
    · iapply (arg_split m c k).2; isplitl [Hcol] <;> iassumption
    isplitl [Hat] <;> iassumption
  isplitl [HO]; · iexists _; iexact HO
  iexact Hx

end Cert.A2A

end
-- ==== Proof.Sends.lean ====
/-
The rules for the pieces that deal with the products.
-/
module

public import proofs.«01_k».proof.Proof.Steps

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 21 → ℕ)

/-! ## The products: their slots, the sending, and what arrives -/

theorem wp_left (c : Dev nD) (p : Fin 2) (ρ l : ℕ) (hr : 2 * ρ + 2 < 16 + p.val) (r : Pg F) (Q : PUnit → sProp 𝕄) :
    iprop(ctx m K ∗ yFly c p ρ ∗ Ow c (oweR c l))
      ⊢ iprop(((yFree c p (ρ + 1) ∗ Ow c (oweR c l)) -∗ Wp c r Q) -∗ Wp c (leftT c p r) Q) := by
  unfold yFly yFree Ow
  iintro ⟨#Hc, ⟨Hcr, Hat⟩, ⟨%W, HO⟩⟩ Hk
  ihave #Hrec := (ctx_rec m K) $$ Hc
  iapply (Rounds.wp_wait_rest_token 𝒱₀ ER (sched m) (c : Thread nD τ) none (κ := K (c, ixS p)) (sm := .dma (sSem p)) (k' := N)
      (by intro Kt; rw [← credit_y p]; exact wpE_waitDma2_eq 𝒱₀ (c : Thread nD τ) none Set.univ Kt) (Set.mem_univ _) () (O := oweR c l) (W := W) (R := ρ) (m := 0) (T := ∅)
      (by rw [expect_s m c p hr, Nat.zero_add])) $$ [Hcr HO Hat]
  · isplitr; · iapply (inv_s m K c p); iexact Hrec
    isplitl [Hcr]; · iexact Hcr
    isplitl [HO]; · iexact HO
    isplitr; · iapply (low_dma (F := F) c _ (low_s p) l); iapply (ctx_lev m K); iexact Hc
    iexact Hat
  iintro ⟨HO, Hat, Hre, Hpay⟩
  ihave Hp := (Entails.of_eq (rest_s m c p hr)) $$ Hpay
  iapply Hk
  isplitl [Hp Hat Hre]
  · isplitl [Hp]; · iexact Hp
    isplitl [Hat] <;> iassumption
  iexists _; iexact HO

theorem yb_loads (p : Fin 2) : ybM.view.setOn (ybRect p).toLoadRect.set ⊆ (ySlot p).view.set := by
  rw [show (ySlot p).view.set = (ybRect p).set from (View.set_reshape _ _).trans (View.set_slice_whole _ _)]
  intro i hi
  obtain ⟨x, hx, rfl⟩ := Finset.mem_map.mp hi
  exact hx
theorem yb_stores (p : Fin 2) : (ybM.access (ybRect p)).setOn Finset.univ ⊆ (ySlot p).view.set := by
  rw [show (ySlot p).view.set = (ybRect p).set from (View.set_reshape _ _).trans (View.set_slice_whole _ _)]
  exact le_of_eq (View.set_slice_whole _ _)

theorem put_pay (c : Dev nD) (k : ℕ) (f : (cc0_scratch1 : Ref sig .tc).ty.Contents (Elt F))
    (hf : (ySlot (par k)).view.read (Elt F) f = blkv m c (peer c k)) (fd : Buf (Elt F) ((rowM c).view.loc (peer c k : Thread nD τ))) :
    ((rowM c).view.loc (peer c k : Thread nD τ) ↦[(rowM c).view.set]{fullShare}
        ((rowM c).view.write (Elt F) fd ((ySlot (par k)).view.read (Elt F) f) Finset.univ) : sProp 𝕄)
      ⊢ (sched m).payload (rCell (peer c k) c) 0 d0 := by
  rw [payload_r, hf]; unfold rowDone rowPts
  exact Entails.of_eq (pointsTo_congr (write_row m c (peer c k) fd))

theorem wp_send (c n : Dev nD) {k : ℕ} (hn : n = peer c k) (h0 : 1 ≤ k) (hk : k < 16) (f : (cc0_scratch1 : Ref sig .tc).ty.Contents (Elt F))
    (hf : (ySlot (par k)).view.read (Elt F) f = blkv m c (peer c k))
    {hsc : (rowM c : Memref sig (Dev.tc n : Thread nD τ).2.kind .vmem S512x256 .f32).view.ref.isScScratch = false}
    {hsrc : (ySlot (par k)).view.WordExact} {hdst : (rowM c).view.WordExact}
    {hsem : DmaTarget.Typed .vmem (.dma (rSem c)) (.remote (Dev.tc n : Thread nD τ) (rowM c) (.dma (sSem (par k))) hsc)}
    (r : Pg F) (Q : PUnit → sProp 𝕄) :
    iprop(ctx m K ∗ yPts c (par k) f ∗ atPos ER (sCell c (par k)) ((k - 1) / 2) ∅ 0 ∗ reached ER (sCell c (par k)) ((k - 1) / 2)
        ∗ rowAny (peer c k) c ∗ tokS c k ∗ tokR c k ∗ Ow c (oweR c k))
      ⊢ iprop(((yFly c (par k) ((k - 1) / 2) ∗ Ow c (oweR c (k + 1))) -∗ Wp c r Q)
        -∗ Wp c (.op (.enqueueDma (ySlot (par k)) (.remote (Dev.tc n : Thread nD τ) (rowM c) (.dma (sSem (par k))) hsc) (.dma (rSem c)) hsrc hdst hsem) fun _ => r) Q) := by
  subst hn
  unfold yFly Ow tokS tokR rowAny yPts rowPts
  iintro ⟨#Hc, Hy, Hat, Hre, ⟨%fd, Hr⟩, HtS, HtR, ⟨%W, HO⟩⟩ Hk
  ihave #Hrec := (ctx_rec m K) $$ Hc
  iapply (Rounds.wp_send_pointsTo 𝒱₀ ER (sched m) (c : Thread nD τ) none (c' := (peer c k : Thread nD τ)) (src := ySlot (par k)) (dst := rowM c)
      (sS := .dma (sSem (par k))) (sem := .dma (rSem c)) (q := fullShare) (fs := f) (fd := fd)
      (κ₁ := K (c, ixS (par k))) (κ₂ := K (peer c k, ixR c)) (r₁ := (k - 1) / 2) (r₂ := 0) (d₁ := d0) (d₂ := d0)
      (by rw [duties_s, if_pos (by show 2 * ((k - 1) / 2) + 2 < 16 + k % 2; omega)]; exact Finset.mem_singleton_self _)
      (by rw [duties_r, if_pos ⟨rfl, (peer_ne c h0 hk).symm⟩]; exact Finset.mem_singleton_self _)
      () () N (credit_row c) (amount_s m c (par k) _ d0) (amount_r m (peer c k) c 0 d0)
      (O₀ := oweR c k) (oweR c (k + 1)) (oweR_succ c hk) (W := W)
      (by rw [payload_s]; unfold yAny yPts; exact exists_intro (Φ := fun f => ((ySlot (par k)).view.loc (c : Thread nD τ) ↦[(ySlot (par k)).view.set]{fullShare} f : sProp 𝕄)) f)
      (put_pay m c k f hf fd)) $$ [Hy Hre Hr HtS HtR HO]
  · isplitr; · iapply (inv_s m K c (par k)); iexact Hrec
    isplitr; · iapply (inv_r m K (peer c k) c); iexact Hrec
    isplitl [Hy]; · iexact Hy
    isplitl [Hr]; · iexact Hr
    isplitl [HO]; · iexact HO
    isplitl [HtS]; · iexact HtS
    isplitl [Hre]; · iexact Hre
    isplitl [HtR]; · iexact HtR
    iapply (reached_r m K (peer c k) c); iexact Hrec
  iintro ⟨Hcr, HO⟩
  iapply Hk
  isplitl [Hcr Hat]
  · isplitl [Hcr] <;> iassumption
  iexists W; iexact HO

theorem wp_put (c : Dev nD) {k : ℕ} (h0 : 1 ≤ k) (hk : k < 16) {w : Vec F S1x8192x256 .bf16} (hw : IsCols m c k w) (r : Pg F) (Q : PUnit → sProp 𝕄) :
    iprop(ctx m K ∗ yFree c (par k) ((k - 1) / 2) ∗ rowAny (peer c k) c ∗ tokS c k ∗ tokR c k ∗ Ow c (oweR c k))
      ⊢ iprop(((yFly c (par k) ((k - 1) / 2) ∗ Ow c (oweR c (k + 1))) -∗ Wp c r Q) -∗ Wp c (putT c k (xs m c) w r) Q) := by
  obtain ⟨g, rfl, hg⟩ := hw
  unfold yFree yAny
  iintro ⟨#Hc, ⟨⟨%f, Hy⟩, Hat, Hre⟩, Hr, HtS, HtR, HO⟩ Hk
  unfold yPts
  iapply (wp_load 𝒱₀ (c : Thread nD τ) none Set.univ (m := ybM) (yb_loads (par k))) $$ Hy; iintro Hy
  iapply (wp_store 𝒱₀ (c : Thread nD τ) none Set.univ (m := ybM) (r := ybRect (par k)) (Mk := Finset.univ) (yb_stores (par k))) $$ Hy; iintro Hy
  rw [pay2_eq, hg]
  iapply (wp_send m K c (tgt c k) (tgt_eq c hk) h0 hk _ (read_ySlot (par k) f (blkv m c (peer c k))) r Q) $$ [Hy Hat Hre Hr HtS HtR HO]
  · isplitr; · iexact Hc
    isplitl [Hy]; · unfold yPts; iexact Hy
    isplitl [Hat]; · iexact Hat
    isplitl [Hre]; · iexact Hre
    isplitl [Hr]; · iexact Hr
    isplitl [HtS]; · iexact HtS
    isplitl [HtR]; · iexact HtR
    iexact HO
  iexact Hk

theorem own_set (c : Dev nD) : (oM.access (ownRect c)).set = (rowM c).view.set := by
  have key : ∀ (o : Fin 2 → Nat) (i : ∀ a, o a + S512x256.size a ≤ S8192x256.size a) (o' : Fin 2 → Nat) (i' : ∀ a, o' a + S512x256.size a ≤ S8192x256.size a),
      o = o' → (oM.access (Rect.unit (s := S8192x256) o S512x256.size i)).set = (oM.slice (Rect.unit (s := S8192x256) o' S512x256.size i') (fun _ => rfl)).view.set := by
    intro o i o' i' h; subst h; rfl
  exact key _ _ _ _ ((off2_eq c).trans (off4_eq c).symm)
theorem own_write_eq (c : Dev nD) (f : (cc0_stg1_0 : Ref sig .tc).ty.Contents (Elt F)) (v : FVec F S512x256 .f32) :
    (oM.access (ownRect c)).write (Elt F) f v Finset.univ = (rowM c).view.write (Elt F) f v Finset.univ := by
  have key : ∀ (o : Fin 2 → Nat) (i : ∀ a, o a + S512x256.size a ≤ S8192x256.size a) (o' : Fin 2 → Nat) (i' : ∀ a, o' a + S512x256.size a ≤ S8192x256.size a),
      o = o' → (oM.access (Rect.unit (s := S8192x256) o S512x256.size i)).write (Elt F) f v Finset.univ
        = (oM.slice (Rect.unit (s := S8192x256) o' S512x256.size i') (fun _ => rfl)).view.write (Elt F) f v Finset.univ := by
    intro o i o' i' h; subst h; rfl
  exact key _ _ _ _ ((off2_eq c).trans (off4_eq c).symm)
theorem own_loads (c : Dev nD) : oM.view.setOn (ownRect c).toLoadRect.set ⊆ (rowM c).view.set := by
  intro i hi
  rw [← own_set c, show (oM.access (ownRect c)).set = (ownRect c).set from View.set_slice_whole _ _]
  obtain ⟨x, hx, rfl⟩ := Finset.mem_map.mp hi
  exact hx

theorem own_write (c : Dev nD) (f : (cc0_stg1_0 : Ref sig .tc).ty.Contents (Elt F)) :
    ((rowM c).view.loc (c : Thread nD τ) ↦[(rowM c).view.set]{fullShare} ((oM.access (ownRect c)).write (Elt F) f (blkv m c c) Finset.univ) : sProp 𝕄)
      ⊢ rowDone m c c := by
  unfold rowDone rowPts
  rw [own_write_eq c f]
  exact Entails.of_eq (pointsTo_congr (write_row m c c f))

theorem peer_zero (c : Dev nD) : peer c 0 = c := by
  apply Fin.ext; have hc : c.val < 16 := c.isLt; show (c.val + 0) % 16 = c.val; omega

theorem wp_own (c : Dev nD) {w : Vec F S1x8192x256 .bf16} (hw : IsCols m c 0 w) (r : Pg F) (Q : PUnit → sProp 𝕄) :
    rowAny c c ⊢ iprop((rowDone m c c -∗ Wp c r Q) -∗ Wp c (ownT c (xs m c) w r) Q) := by
  obtain ⟨g, rfl, hg⟩ := hw
  unfold rowAny
  iintro ⟨%f, Hr⟩ Hk
  unfold rowPts
  iapply (wp_load 𝒱₀ (c : Thread nD τ) none Set.univ (m := oM) (own_loads c)) $$ Hr; iintro Hr
  iapply (wp_store 𝒱₀ (c : Thread nD τ) none Set.univ (m := oM) (r := ownRect c) (Mk := Finset.univ)
    (S := (rowM c).view.set) (le_of_eq (own_set c))) $$ Hr; iintro Hr
  rw [pay1_eq, hg, peer_zero]
  iapply Hk
  iapply (own_write m c f)
  iexact Hr

theorem credit_recv (c : Dev nD) (r : Fin 15) :
    (oM.slice (Rect.unit (s := S8192x256) (k0_off6 c (BitVec.ofNat 32 (1 + r.val))) S512x256.size (k0_off6_inb c r)) (fun _ => rfl)).view.dmaCredit = N := by
  unfold N; rfl

theorem wp_recv_of (c j : Dev nD) (hne : j ≠ c) (q : DmaSem sig) (hq : q = rSem j) {src dst : Memref sig .tc .vmem S512x256 .f32}
    (hd : dst.view.dmaCredit = N) {hs : src.view.WordExact} {hdw : dst.view.WordExact} (r : Pg F) (Q : PUnit → sProp 𝕄) :
    iprop(ctx m K ∗ Ow c 0 ∗ cred (tallyAt (rCell c j) () N) ∗ atPos ER (rCell c j) 0 ∅ 0)
      ⊢ iprop(((Ow c 0 ∗ atPos ER (rCell c j) 1 ∅ 0 ∗ rowDone m c j) -∗ Wp c r Q)
        -∗ Wp c (.op (.waitDma2 q src dst hs hdw) fun _ => r) Q) := by
  subst hq
  unfold Ow
  iintro ⟨#Hc, ⟨%W, HO⟩, Hcr, Hat⟩ Hk
  ihave #Hrec := (ctx_rec m K) $$ Hc
  iapply (Rounds.wp_wait_rest_token 𝒱₀ ER (sched m) (c : Thread nD τ) none (κ := K (c, ixR j)) (sm := .dma (rSem j)) (k' := N)
      (by intro Kt; rw [← hd]; exact wpE_waitDma2_eq 𝒱₀ (c : Thread nD τ) none Set.univ Kt) (Set.mem_univ _) () (O := 0) (W := W) (R := 0) (m := 0) (T := ∅)
      (by rw [expect_r m c hne, Nat.zero_add])) $$ [Hcr HO Hat]
  · isplitr; · iapply (inv_r m K c j); iexact Hrec
    isplitl [Hcr]; · iexact Hcr
    isplitl [HO]; · iexact HO
    isplitr; · rw [MayWait_zero]; iempintro
    iexact Hat
  iintro ⟨HO, Hat, -, Hpay⟩
  ihave Hp := (Entails.of_eq (rest_r m c hne)) $$ Hpay
  iapply Hk
  isplitl [HO]; · iexists _; iexact HO
  isplitl [Hat]; · iexact Hat
  iexact Hp

theorem wp_recv (c : Dev nD) {k : ℕ} (hk : k < 15) (r : Pg F) (Q : PUnit → sProp 𝕄) :
    iprop(ctx m K ∗ Ow c 0 ∗ cred (tallyAt (rCell c (srcOf c (k + 1))) () N) ∗ atPos ER (rCell c (srcOf c (k + 1))) 0 ∅ 0)
      ⊢ iprop(((Ow c 0 ∗ atPos ER (rCell c (srcOf c (k + 1))) 1 ∅ 0 ∗ rowDone m c (srcOf c (k + 1))) -∗ Wp c r Q)
        -∗ Wp c (recvT c (Fin.ofNat 15 k) r) Q) :=
  wp_recv_of m K c (srcOf c (k + 1)) (srcOf_ne c (by omega) (by omega)) _
    ((off5_eq c (Fin.ofNat 15 k)).trans (congrArg (fun n => rSem (srcOf c (n + 1))) (ofNat15 hk))) (credit_recv c (Fin.ofNat 15 k)) r Q

end Cert.A2A

end
-- ==== Proof.Loops.lean ====
/-
The rules for the repeated parts of the body: the signals, the middle steps and the receives, each by induction.
-/
module

public import proofs.«01_k».proof.Proof.Sends
public import Idealize.SL.BI.BigOpNat

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 21 → ℕ)

/-! ## The loops -/

theorem wp_sigs (c : Dev nD) (r : Pg F) (Q : PUnit → sProp 𝕄) : ∀ (n k : ℕ), 1 ≤ k → k + n = 16 →
    iprop(ctx m K ∗ Ow c (oweR c 1 + oweB c k) ∗ bigSep (Finset.Ico k 16) (tokB (F := F) c) ∗ bigSep (Finset.Ico k 16) fun j => rowAny (F := F) c (peer c j))
      ⊢ iprop((Ow c (oweR c 1) -∗ Wp c r Q) -∗ Wp c (sigsT c n k r) Q)
  | 0, k, h1, h => by
      obtain rfl : k = 16 := by omega
      rw [oweB_end, add_zero]
      unfold sigsT
      iintro ⟨-, HO, -, -⟩ Hk
      iapply Hk; iexact HO
  | n + 1, k, h1, h => by
      have hk : k < 16 := by omega
      unfold sigsT
      rw [bigSep_Ico_succ_bot hk, bigSep_Ico_succ_bot hk]
      iintro ⟨#Hc, HO, ⟨Ht, Hts⟩, ⟨Hr, Hrs⟩⟩ Hk
      iapply (wp_sig m K c (tgt c k) (tgt_eq c hk) h1 hk (sigsT c n (k + 1) r) Q) $$ [HO Ht Hr]
      · isplitr; · iexact Hc
        isplitl [HO]; · iexact HO
        isplitl [Ht] <;> iassumption
      iintro HO
      iapply (wp_sigs c r Q n (k + 1) (by omega) (by omega)) $$ [HO Hts Hrs]
      · isplitr; · iexact Hc
        isplitl [HO]; · iexact HO
        isplitl [Hts] <;> iassumption
      iexact Hk

theorem wp_recvs (c : Dev nD) (r : Pg F) (Q : PUnit → sProp 𝕄) : ∀ (n k : ℕ), k + n = 15 →
    iprop(ctx m K ∗ Ow c 0 ∗ (bigSep (Finset.Ico k 15) fun j => (cred (tallyAt (rCell c (srcOf c (j + 1))) () N) : sProp 𝕄))
        ∗ bigSep (Finset.Ico k 15) fun j => (atPos ER (rCell c (srcOf c (j + 1))) 0 ∅ 0 : sProp 𝕄))
      ⊢ iprop(((Ow c 0 ∗ (bigSep (Finset.Ico k 15) fun j => (atPos ER (rCell c (srcOf c (j + 1))) 1 ∅ 0 : sProp 𝕄))
            ∗ bigSep (Finset.Ico k 15) fun j => rowDone m c (srcOf c (j + 1))) -∗ Wp c r Q)
        -∗ Wp c (recvsT c n k r) Q)
  | 0, k, h => by
      obtain rfl : k = 15 := by omega
      unfold recvsT
      rw [Finset.Ico_self, bigSep_empty, bigSep_empty, bigSep_empty, bigSep_empty]
      iintro ⟨-, HO, -, -⟩ Hk
      iapply Hk
      isplitl [HO]; · iexact HO
      isplitl [] <;> iempintro
  | n + 1, k, h => by
      have hk : k < 15 := by omega
      unfold recvsT
      rw [bigSep_Ico_succ_bot hk, bigSep_Ico_succ_bot hk, bigSep_Ico_succ_bot hk, bigSep_Ico_succ_bot hk]
      iintro ⟨#Hc, HO, ⟨Hcr, Hcrs⟩, ⟨Hat, Hats⟩⟩ Hk
      iapply (wp_recv m K c hk (recvsT c n (k + 1) r) Q) $$ [HO Hcr Hat]
      · isplitr; · iexact Hc
        isplitl [HO]; · iexact HO
        isplitl [Hcr] <;> iassumption
      iintro ⟨HO, Hat, Hrow⟩
      iapply (wp_recvs c r Q n (k + 1) (by omega)) $$ [HO Hcrs Hats]
      · isplitr; · iexact Hc
        isplitl [HO]; · iexact HO
        isplitl [Hcrs] <;> iassumption
      iintro ⟨HO, Hats, Hrows⟩
      iapply Hk
      isplitl [HO]; · iexact HO
      isplitl [Hat Hats]
      · isplitl [Hat] <;> iassumption
      isplitl [Hrow] <;> iassumption

theorem wFree_next (c : Dev nD) (k : ℕ) : wFree m c (par k) (k / 2 + 1) = wFree m c (par (k + 2)) ((k + 2) / 2) := by
  rw [show par (k + 2) = par k from Fin.ext (by show (k + 2) % 2 = k % 2; omega), show (k + 2) / 2 = k / 2 + 1 by omega]

/-- What device `c` holds before step `k` of the middle part. -/
def Mid (c : Dev nD) (k : ℕ) : sProp 𝕄 :=
  iprop(wFly m c k ∗ wFree m c (par (k + 1)) ((k + 1) / 2) ∗ bigSep (Finset.Ico (k + 1) 16) (tokW (F := F) c)
    ∗ yFly c (par k) ((k - 3) / 2) ∗ yFly c (par (k + 1)) ((k - 2) / 2)
    ∗ bigSep (Finset.Ico k 16) (tokS (F := F) c) ∗ bigSep (Finset.Ico k 16) (tokR (F := F) c)
    ∗ (bigSep (Finset.Ico k 16) fun j => rowAny (F := F) (peer c j) c)
    ∗ Ow c (oweR c k) ∗ xPts m c)

/-- A step that waits for its slot: wait for its columns, for its slot, and send. -/
theorem wp_step (c : Dev nD) {k : ℕ} (h3 : 3 ≤ k) (hk : k < 16) (r : Pg F) (Q : PUnit → sProp 𝕄) :
    iprop(ctx m K ∗ wFly m c k ∗ yFly c (par k) ((k - 3) / 2) ∗ tokS c k ∗ tokR c k ∗ rowAny (peer c k) c ∗ Ow c (oweR c k) ∗ xPts m c)
      ⊢ iprop(((wFree m c (par (k + 2)) ((k + 2) / 2) ∗ yFly c (par k) ((k - 1) / 2) ∗ Ow c (oweR c (k + 1)) ∗ xPts m c) -∗ Wp c r Q)
        -∗ Wp c (mulT c k fun x w => leftT c (par k) (putT c k x w r)) Q) := by
  rw [← wFree_next]
  iintro ⟨#Hc, Hw, Hy, HtS, HtR, Hrow, HO, Hx⟩ Hk
  iapply (wp_mul m K c hk k (fun x w => leftT c (par k) (putT c k x w r)) Q) $$ [Hw HO Hx]
  · isplitr; · iexact Hc
    isplitl [Hw]; · iexact Hw
    isplitl [HO] <;> iassumption
  iintro %w %hw ⟨Hw, HO, Hx⟩
  iapply (wp_left m K c (par k) ((k - 3) / 2) k (by show 2 * ((k - 3) / 2) + 2 < 16 + k % 2; omega) (putT c k (xs m c) w r) Q) $$ [Hy HO]
  · isplitr; · iexact Hc
    isplitl [Hy] <;> iassumption
  rw [show (k - 3) / 2 + 1 = (k - 1) / 2 by omega]
  iintro ⟨Hy, HO⟩
  iapply (wp_put m K c (by omega) hk hw r Q) $$ [Hy Hrow HtS HtR HO]
  · isplitr; · iexact Hc
    isplitl [Hy]; · iexact Hy
    isplitl [Hrow]; · iexact Hrow
    isplitl [HtS]; · iexact HtS
    isplitl [HtR] <;> iassumption
  iintro ⟨Hy, HO⟩
  iapply Hk
  isplitl [Hw]; · iexact Hw
  isplitl [Hy]; · iexact Hy
  isplitl [HO] <;> iassumption

theorem Mid_open (c : Dev nD) {k : ℕ} (hk : k < 15) :
    Mid m c k = iprop(wFly m c k ∗ wFree m c (par (k + 1)) ((k + 1) / 2) ∗ (tokW (F := F) c (k + 1) ∗ bigSep (Finset.Ico (k + 1 + 1) 16) (tokW (F := F) c))
    ∗ yFly c (par k) ((k - 3) / 2) ∗ yFly c (par (k + 1)) ((k - 2) / 2)
    ∗ (tokS (F := F) c k ∗ bigSep (Finset.Ico (k + 1) 16) (tokS (F := F) c)) ∗ (tokR (F := F) c k ∗ bigSep (Finset.Ico (k + 1) 16) (tokR (F := F) c))
    ∗ (rowAny (F := F) (peer c k) c ∗ bigSep (Finset.Ico (k + 1) 16) fun j => rowAny (F := F) (peer c j) c)
    ∗ Ow c (oweR c k) ∗ xPts m c) := by
  unfold Mid
  rw [bigSep_Ico_succ_bot (show k + 1 < 16 by omega), bigSep_Ico_succ_bot (show k < 16 by omega), bigSep_Ico_succ_bot (show k < 16 by omega),
    bigSep_Ico_succ_bot (show k < 16 by omega)]

theorem Mid_next (c : Dev nD) {k : ℕ} :
    Mid m c (k + 1) = iprop(wFly m c (k + 1) ∗ wFree m c (par (k + 2)) ((k + 2) / 2) ∗ bigSep (Finset.Ico (k + 1 + 1) 16) (tokW (F := F) c)
    ∗ yFly c (par (k + 1)) ((k - 2) / 2) ∗ yFly c (par k) ((k - 1) / 2)
    ∗ bigSep (Finset.Ico (k + 1) 16) (tokS (F := F) c) ∗ bigSep (Finset.Ico (k + 1) 16) (tokR (F := F) c)
    ∗ (bigSep (Finset.Ico (k + 1) 16) fun j => rowAny (F := F) (peer c j) c)
    ∗ Ow c (oweR c (k + 1)) ∗ xPts m c) := by
  unfold Mid
  have e : par (k + 1 + 1) = par k := Fin.ext (by show (k + 1 + 1) % 2 = k % 2; omega)
  rw [show k + 1 - 3 = k - 2 by omega, show k + 1 - 2 = k - 1 by omega, show k + 2 = k + 1 + 1 from rfl, e]

theorem wp_mid (c : Dev nD) (r : Pg F) (Q : PUnit → sProp 𝕄) : ∀ (n k : ℕ), 3 ≤ k → k + n = 15 →
    iprop(ctx m K ∗ Mid m c k) ⊢ iprop((Mid m c 15 -∗ Wp c r Q) -∗ Wp c (midT c n k r) Q)
  | 0, k, h3, h => by
      obtain rfl : k = 15 := by omega
      unfold midT
      iintro ⟨-, H⟩ Hk
      iapply Hk; iexact H
  | n + 1, k, h3, h => by
      have hk : k < 15 := by omega
      unfold midT
      iintro ⟨#Hc, H⟩ Hk
      ihave H := (Entails.of_eq (Mid_open m c hk)) $$ H
      icases H with ⟨Hw, Hw', ⟨HtW, HtWs⟩, Hy, Hy', ⟨HtS, HtSs⟩, ⟨HtR, HtRs⟩, ⟨Hrow, Hrows⟩, HO, Hx⟩
      iapply (wp_fetch m K c (show k + 1 < 16 by omega) (mulT c k fun x w => leftT c (par k) (putT c k x w (midT c n (k + 1) r))) Q) $$ [Hw' HtW]
      · isplitr; · iexact Hc
        isplitl [Hw'] <;> iassumption
      iintro Hw'
      iapply (wp_step m K c h3 (by omega) (midT c n (k + 1) r) Q) $$ [Hw Hy HtS HtR Hrow HO Hx]
      · isplitr; · iexact Hc
        isplitl [Hw]; · iexact Hw
        isplitl [Hy]; · iexact Hy
        isplitl [HtS]; · iexact HtS
        isplitl [HtR]; · iexact HtR
        isplitl [Hrow]; · iexact Hrow
        isplitl [HO] <;> iassumption
      iintro ⟨Hw, Hy, HO, Hx⟩
      iapply (wp_mid c r Q n (k + 1) (by omega) (by omega)) $$ [Hw Hw' HtWs Hy Hy' HtSs HtRs Hrows HO Hx]
      · isplitr; · iexact Hc
        rw [Mid_next]
        isplitl [Hw']; · iexact Hw'
        isplitl [Hw]; · iexact Hw
        isplitl [HtWs]; · iexact HtWs
        isplitl [Hy']; · iexact Hy'
        isplitl [Hy]; · iexact Hy
        isplitl [HtSs]; · iexact HtSs
        isplitl [HtRs]; · iexact HtRs
        isplitl [Hrows]; · iexact Hrows
        isplitl [HO] <;> iassumption
      iexact Hk

/-! ## The other devices, counted from this one -/

omit [FloatOps F] in
theorem peers (c : Dev nD) (Φ : Dev nD → sProp 𝕄) : bigSep (Finset.univ.erase c) Φ = bigSep (Finset.Ico 1 16) fun k => Φ (peer c k) := by
  have himg : (Finset.Ico 1 16).image (peer c) = Finset.univ.erase c := by
    ext d
    simp only [Finset.mem_image, Finset.mem_Ico, Finset.mem_erase, Finset.mem_univ, and_true]
    constructor
    · rintro ⟨k, ⟨h1, h2⟩, rfl⟩; exact peer_ne c h1 h2
    · intro hd
      have hc : c.val < 16 := c.isLt
      have hd' : d.val < 16 := d.isLt
      have hv : d.val ≠ c.val := fun h => hd (Fin.ext h)
      refine ⟨(d.val + (16 - c.val)) % 16, by omega, Fin.ext ?_⟩
      show (c.val + (d.val + (16 - c.val)) % 16) % 16 = d.val
      omega
  rw [← himg, bigSep_image_of_injOn]
  intro a ha b hb h
  have ha' := Finset.mem_Ico.mp ha
  have hb' := Finset.mem_Ico.mp hb
  exact peer_inj c ha'.2 hb'.2 h
omit [FloatOps F] in
theorem srcs (c : Dev nD) (Φ : Dev nD → sProp 𝕄) : bigSep (Finset.univ.erase c) Φ = bigSep (Finset.Ico 0 15) fun k => Φ (srcOf c (k + 1)) := by
  have himg : (Finset.Ico 0 15).image (fun k => srcOf c (k + 1)) = Finset.univ.erase c := by
    ext d
    simp only [Finset.mem_image, Finset.mem_Ico, Finset.mem_erase, Finset.mem_univ, and_true]
    constructor
    · rintro ⟨k, ⟨h1, h2⟩, rfl⟩; exact srcOf_ne c (by omega) (by omega)
    · intro hd
      have hc : c.val < 16 := c.isLt
      have hd' : d.val < 16 := d.isLt
      have hv : d.val ≠ c.val := fun h => hd (Fin.ext h)
      refine ⟨(c.val + (16 - d.val)) % 16 - 1, by omega, Fin.ext ?_⟩
      show (c.val + (16 - ((c.val + (16 - d.val)) % 16 - 1 + 1))) % 16 = d.val
      omega
  rw [← himg, bigSep_image_of_injOn]
  intro a ha b hb h
  have ha' := Finset.mem_Ico.mp ha
  have hb' := Finset.mem_Ico.mp hb
  have := srcOf_inj c (by omega) (by omega) (by omega) (by omega) h
  omega

end Cert.A2A

end
-- ==== Proof.Body.lean ====
/-
The whole body, from what a device holds at its start to what it holds at its end.
-/
module

public import proofs.«01_k».proof.Proof.Loops

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 21 → ℕ)

/-- What device `c` holds when its body begins. -/
def bodyIn (c : Dev nD) : sProp 𝕄 :=
  iprop(Ow c (O₀ c) ∗ xPts m c ∗ (bigSep Finset.univ fun j => rowAny (F := F) c j)
    ∗ wFree m c (par 0) (0 / 2) ∗ wFree m c (par 1) (1 / 2) ∗ yFree c (par 1) ((1 - 1) / 2) ∗ yFree c (par 2) ((2 - 1) / 2)
    ∗ cred (tallyAt (barCell c) () 15) ∗ atPos ER (barCell c) 0 ∅ 0
    ∗ bigSep (Finset.Ico 1 16) (tokB (F := F) c) ∗ bigSep (Finset.Ico 0 16) (tokW (F := F) c)
    ∗ bigSep (Finset.Ico 1 16) (tokS (F := F) c) ∗ bigSep (Finset.Ico 1 16) (tokR (F := F) c)
    ∗ (bigSep (Finset.univ.erase c) fun j => (cred (tallyAt (rCell c j) () N) : sProp 𝕄))
    ∗ bigSep (Finset.univ.erase c) fun j => (atPos ER (rCell c j) 0 ∅ 0 : sProp 𝕄))

/-- What it holds when its body has run. -/
def bodyOut (c : Dev nD) : sProp 𝕄 :=
  iprop(Ow c 0 ∗ xPts m c ∗ (bigSep Finset.univ fun j => rowDone m c j)
    ∗ wFree m c 0 8 ∗ wFree m c 1 8 ∗ yFree c 0 7 ∗ yFree c 1 8
    ∗ atPos ER (barCell c) 1 ∅ 0
    ∗ bigSep (Finset.univ.erase c) fun j => (atPos ER (rCell c j) 1 ∅ 0 : sProp 𝕄))

theorem bodyIn_eq (c : Dev nD) : bodyIn m c = iprop(Ow c (oweR c 1 + oweB c 1) ∗ xPts m c ∗ (rowAny (F := F) c c ∗ bigSep (Finset.Ico 1 16) fun k => rowAny (F := F) c (peer c k))
    ∗ wFree m c (par 0) (0 / 2) ∗ wFree m c (par 1) (1 / 2) ∗ yFree c (par 1) ((1 - 1) / 2) ∗ yFree c (par 2) ((2 - 1) / 2)
    ∗ cred (tallyAt (barCell c) () 15) ∗ atPos ER (barCell c) 0 ∅ 0
    ∗ bigSep (Finset.Ico 1 16) (tokB (F := F) c)
    ∗ (tokW (F := F) c 0 ∗ tokW (F := F) c 1 ∗ tokW (F := F) c 2 ∗ tokW (F := F) c 3 ∗ bigSep (Finset.Ico 4 16) (tokW (F := F) c))
    ∗ (tokS (F := F) c 1 ∗ tokS (F := F) c 2 ∗ bigSep (Finset.Ico 3 16) (tokS (F := F) c))
    ∗ (tokR (F := F) c 1 ∗ tokR (F := F) c 2 ∗ bigSep (Finset.Ico 3 16) (tokR (F := F) c))
    ∗ (bigSep (Finset.Ico 0 15) fun k => (cred (tallyAt (rCell c (srcOf c (k + 1))) () N) : sProp 𝕄))
    ∗ bigSep (Finset.Ico 0 15) fun k => (atPos ER (rCell c (srcOf c (k + 1))) 0 ∅ 0 : sProp 𝕄)) := by
  unfold bodyIn O₀
  rw [bigSep_univ_split c, peers, srcs, srcs,
    bigSep_Ico_succ_bot (show 0 < 16 by omega) (tokW c), bigSep_Ico_succ_bot (show 0 + 1 < 16 by omega) (tokW c),
    bigSep_Ico_succ_bot (show 0 + 1 + 1 < 16 by omega) (tokW c), bigSep_Ico_succ_bot (show 0 + 1 + 1 + 1 < 16 by omega) (tokW c),
    bigSep_Ico_succ_bot (show 1 < 16 by omega) (tokS c), bigSep_Ico_succ_bot (show 1 + 1 < 16 by omega) (tokS c),
    bigSep_Ico_succ_bot (show 1 < 16 by omega) (tokR c), bigSep_Ico_succ_bot (show 1 + 1 < 16 by omega) (tokR c)]
  rfl

theorem rows_given (c : Dev nD) : (bigSep (Finset.univ.erase c) fun d => (rowAny d c : sProp 𝕄))
    = iprop(rowAny (F := F) (peer c 1) c ∗ rowAny (F := F) (peer c 2) c ∗ bigSep (Finset.Ico 3 16) fun k => rowAny (F := F) (peer c k) c) := by
  rw [peers, bigSep_Ico_succ_bot (show 1 < 16 by omega), bigSep_Ico_succ_bot (show 1 + 1 < 16 by omega)]

theorem bodyOut_eq (c : Dev nD) : bodyOut m c = iprop(Ow c 0 ∗ xPts m c ∗ (rowDone m c c ∗ bigSep (Finset.Ico 0 15) fun k => rowDone m c (srcOf c (k + 1)))
    ∗ wFree m c 0 8 ∗ wFree m c 1 8 ∗ yFree c 0 7 ∗ yFree c 1 8
    ∗ atPos ER (barCell c) 1 ∅ 0
    ∗ bigSep (Finset.Ico 0 15) fun k => (atPos ER (rCell c (srcOf c (k + 1))) 1 ∅ 0 : sProp 𝕄)) := by
  unfold bodyOut
  rw [bigSep_univ_split c, srcs, srcs]
  rfl

/-- The three pieces that come before the steps that wait for their slot. -/
theorem wp_first (c : Dev nD) (r : Pg F) (Q : PUnit → sProp 𝕄) :
    iprop(ctx m K ∗ wFly m c 0 ∗ wFree m c (par 1) (1 / 2) ∗ tokW c 1 ∗ rowAny c c ∗ Ow c (oweR c 1) ∗ xPts m c)
      ⊢ iprop(((wFly m c 1 ∗ wFree m c (par 2) (2 / 2) ∗ rowDone m c c ∗ Ow c (oweR c 1) ∗ xPts m c) -∗ Wp c r Q)
        -∗ Wp c (fetchT c 1 <| mulT c 0 fun x w => ownT c x w r) Q) := by
  iintro ⟨#Hc, Hw, Hw', Ht, Hrow, HO, Hx⟩ Hk
  iapply (wp_fetch m K c (show 1 < 16 by omega) (mulT c 0 fun x w => ownT c x w r) Q) $$ [Hw' Ht]
  · isplitr; · iexact Hc
    isplitl [Hw'] <;> iassumption
  iintro Hw'
  iapply (wp_mul m K c (show 0 < 16 by omega) 1 (fun x w => ownT c x w r) Q) $$ [Hw HO Hx]
  · isplitr; · iexact Hc
    isplitl [Hw]; · iexact Hw
    isplitl [HO] <;> iassumption
  iintro %w %hw ⟨Hw, HO, Hx⟩
  iapply (wp_own m c hw r Q) $$ Hrow
  iintro Hrow
  iapply Hk
  isplitl [Hw']; · iexact Hw'
  isplitl [Hw]; · iapply (Entails.of_eq (wFree_next m c 0)); iexact Hw
  isplitl [Hrow]; · iexact Hrow
  isplitl [HO] <;> iassumption

/-- A step whose slot has not been used before. -/
theorem wp_early (c : Dev nD) {k : ℕ} (h0 : 1 ≤ k) (hk : k < 15) (r : Pg F) (Q : PUnit → sProp 𝕄) :
    iprop(ctx m K ∗ wFly m c k ∗ wFree m c (par (k + 1)) ((k + 1) / 2) ∗ tokW c (k + 1) ∗ yFree c (par k) ((k - 1) / 2)
        ∗ tokS c k ∗ tokR c k ∗ rowAny (peer c k) c ∗ Ow c (oweR c k) ∗ xPts m c)
      ⊢ iprop(((wFly m c (k + 1) ∗ wFree m c (par (k + 2)) ((k + 2) / 2) ∗ yFly c (par k) ((k - 1) / 2) ∗ Ow c (oweR c (k + 1)) ∗ xPts m c) -∗ Wp c r Q)
        -∗ Wp c (fetchT c (k + 1) <| mulT c k fun x w => putT c k x w r) Q) := by
  rw [← wFree_next]
  iintro ⟨#Hc, Hw, Hw', Ht, Hy, HtS, HtR, Hrow, HO, Hx⟩ Hk
  iapply (wp_fetch m K c (show k + 1 < 16 by omega) (mulT c k fun x w => putT c k x w r) Q) $$ [Hw' Ht]
  · isplitr; · iexact Hc
    isplitl [Hw'] <;> iassumption
  iintro Hw'
  iapply (wp_mul m K c (show k < 16 by omega) k (fun x w => putT c k x w r) Q) $$ [Hw HO Hx]
  · isplitr; · iexact Hc
    isplitl [Hw]; · iexact Hw
    isplitl [HO] <;> iassumption
  iintro %w %hw ⟨Hw, HO, Hx⟩
  iapply (wp_put m K c h0 (show k < 16 by omega) hw r Q) $$ [Hy Hrow HtS HtR HO]
  · isplitr; · iexact Hc
    isplitl [Hy]; · iexact Hy
    isplitl [Hrow]; · iexact Hrow
    isplitl [HtS]; · iexact HtS
    isplitl [HtR] <;> iassumption
  iintro ⟨Hy, HO⟩
  iapply Hk
  isplitl [Hw']; · iexact Hw'
  isplitl [Hw]; · iexact Hw
  isplitl [Hy]; · iexact Hy
  isplitl [HO] <;> iassumption

theorem Mid_last (c : Dev nD) : Mid m c 15 = iprop(wFly m c 15 ∗ wFree m c 0 8 ∗ emp
    ∗ yFly c (par 15) ((15 - 3) / 2) ∗ yFly c 0 6
    ∗ tokS (F := F) c 15 ∗ tokR (F := F) c 15 ∗ rowAny (F := F) (peer c 15) c
    ∗ Ow c (oweR c 15) ∗ xPts m c) := by
  unfold Mid
  rw [show Finset.Ico (15 + 1) 16 = ∅ from rfl, bigSep_empty, bigSep_Ico_one 15, bigSep_Ico_one 15, bigSep_Ico_one 15]
  rfl

/-- The last step, and the two waits for the slots. -/
theorem wp_last (c : Dev nD) (r : Pg F) (Q : PUnit → sProp 𝕄) :
    iprop(ctx m K ∗ Mid m c 15)
      ⊢ iprop(((wFree m c 0 8 ∗ wFree m c 1 8 ∗ yFree c 0 7 ∗ yFree c 1 8 ∗ Ow c 0 ∗ xPts m c) -∗ Wp c r Q)
        -∗ Wp c (mulT c 15 fun x w => leftT c (par 15) <| putT c 15 x w <| leftT c 0 <| leftT c 1 r) Q) := by
  rw [Mid_last]
  iintro ⟨#Hc, Hw, Hw', -, Hy, Hy', HtS, HtR, Hrow, HO, Hx⟩ Hk
  iapply (wp_step m K c (show 3 ≤ 15 by omega) (show 15 < 16 by omega) (leftT c 0 <| leftT c 1 r) Q) $$ [Hw Hy HtS HtR Hrow HO Hx]
  · isplitr; · iexact Hc
    isplitl [Hw]; · iexact Hw
    isplitl [Hy]; · iexact Hy
    isplitl [HtS]; · iexact HtS
    isplitl [HtR]; · iexact HtR
    isplitl [Hrow]; · iexact Hrow
    isplitl [HO] <;> iassumption
  iintro ⟨Hw, Hy, HO, Hx⟩
  iapply (wp_left m K c 0 6 16 (by decide) (leftT c 1 r) Q) $$ [Hy' HO]
  · isplitr; · iexact Hc
    isplitl [Hy'] <;> iassumption
  iintro ⟨Hy', HO⟩
  iapply (wp_left m K c 1 7 16 (by decide) r Q) $$ [Hy HO]
  · isplitr; · iexact Hc
    isplitl [Hy]
    · iapply (Entails.of_eq (show yFly (F := F) c (par 15) ((15 - 1) / 2) = yFly c 1 7 from rfl)); iexact Hy
    iexact HO
  iintro ⟨Hy, HO⟩
  iapply Hk
  isplitl [Hw']; · iexact Hw'
  isplitl [Hw]; · iapply (Entails.of_eq (show wFree m c (par (15 + 2)) ((15 + 2) / 2) = wFree m c 1 8 from rfl)); iexact Hw
  isplitl [Hy']; · iexact Hy'
  isplitl [Hy]; · iexact Hy
  isplitl [HO]
  · iapply (Entails.of_eq (show Ow (F := F) c (oweR c 16) = Ow c 0 by rw [oweR_end])); iexact HO
  iexact Hx

theorem Mid_first (c : Dev nD) : Mid m c 3 = iprop(wFly m c 3 ∗ wFree m c (par (2 + 2)) ((2 + 2) / 2) ∗ bigSep (Finset.Ico 4 16) (tokW (F := F) c)
    ∗ yFly c (par 1) ((1 - 1) / 2) ∗ yFly c (par 2) ((2 - 1) / 2)
    ∗ bigSep (Finset.Ico 3 16) (tokS (F := F) c) ∗ bigSep (Finset.Ico 3 16) (tokR (F := F) c)
    ∗ (bigSep (Finset.Ico 3 16) fun j => rowAny (F := F) (peer c j) c)
    ∗ Ow c (oweR c 3) ∗ xPts m c) := rfl

theorem wp_done (c : Dev nD) (Q : PUnit → sProp 𝕄) : Q ⟨⟩ ⊢ Wp c (.ret ⟨⟩) Q := by
  unfold Wp
  rw [wp_ret]
  iintro H
  imodintro
  iexact H

/-- The whole body. -/
theorem wp_body (c : Dev nD) (Q : PUnit → sProp 𝕄) :
    iprop(ctx m K ∗ bodyIn m c) ⊢ iprop((bodyOut m c -∗ Q ⟨⟩) -∗ Wp c (bodyT c) Q) := by
  rw [bodyIn_eq, bodyOut_eq]
  unfold bodyT
  iintro ⟨#Hc, HO, Hx, ⟨Hown, Hgive⟩, Hw0, Hw1, Hy1, Hy2, HcB, HatB, HtB, ⟨HtW0, HtW1, HtW2, HtW3, HtW⟩, ⟨HtS1, HtS2, HtS⟩, ⟨HtR1, HtR2, HtR⟩, HcR, HatR⟩ Hk
  iapply (wp_sigs m K c _ Q 15 1 (by omega) (by omega)) $$ [HO HtB Hgive]
  · isplitr; · iexact Hc
    isplitl [HO]; · iexact HO
    isplitl [HtB] <;> iassumption
  iintro HO
  iapply (wp_bar m K c _ Q) $$ [HO HcB HatB]
  · isplitr; · iexact Hc
    isplitl [HO]; · iexact HO
    isplitl [HcB] <;> iassumption
  iintro ⟨HO, HatB, Hrows⟩
  ihave Hr := (Entails.of_eq (rows_given c)) $$ Hrows
  icases Hr with ⟨Hr1, Hr2, Hr⟩
  iapply (wp_fetch m K c (show 0 < 16 by omega) _ Q) $$ [Hw0 HtW0]
  · isplitr; · iexact Hc
    isplitl [Hw0] <;> iassumption
  iintro Hw0
  iapply (wp_first m K c _ Q) $$ [Hw0 Hw1 HtW1 Hown HO Hx]
  · isplitr; · iexact Hc
    isplitl [Hw0]; · iexact Hw0
    isplitl [Hw1]; · iexact Hw1
    isplitl [HtW1]; · iexact HtW1
    isplitl [Hown]; · iexact Hown
    isplitl [HO] <;> iassumption
  iintro ⟨Hw1, Hw0, Hown, HO, Hx⟩
  iapply (wp_early m K c (show 1 ≤ 1 by omega) (show 1 < 15 by omega) _ Q) $$ [Hw1 Hw0 HtW2 Hy1 HtS1 HtR1 Hr1 HO Hx]
  · isplitr; · iexact Hc
    isplitl [Hw1]; · iexact Hw1
    isplitl [Hw0]; · iexact Hw0
    isplitl [HtW2]; · iexact HtW2
    isplitl [Hy1]; · iexact Hy1
    isplitl [HtS1]; · iexact HtS1
    isplitl [HtR1]; · iexact HtR1
    isplitl [Hr1]; · iexact Hr1
    isplitl [HO] <;> iassumption
  iintro ⟨Hw0, Hw1, Hy1, HO, Hx⟩
  iapply (wp_early m K c (show 1 ≤ 2 by omega) (show 2 < 15 by omega) _ Q) $$ [Hw0 Hw1 HtW3 Hy2 HtS2 HtR2 Hr2 HO Hx]
  · isplitr; · iexact Hc
    isplitl [Hw0]; · iexact Hw0
    isplitl [Hw1]; · iexact Hw1
    isplitl [HtW3]; · iexact HtW3
    isplitl [Hy2]; · iexact Hy2
    isplitl [HtS2]; · iexact HtS2
    isplitl [HtR2]; · iexact HtR2
    isplitl [Hr2]; · iexact Hr2
    isplitl [HO] <;> iassumption
  iintro ⟨Hw1, Hw0, Hy2, HO, Hx⟩
  iapply (wp_mid m K c _ Q 12 3 (by omega) (by omega)) $$ [Hw1 Hw0 HtW Hy1 Hy2 HtS HtR Hr HO Hx]
  · isplitr; · iexact Hc
    rw [Mid_first]
    isplitl [Hw1]; · iexact Hw1
    isplitl [Hw0]; · iexact Hw0
    isplitl [HtW]; · iexact HtW
    isplitl [Hy1]; · iexact Hy1
    isplitl [Hy2]; · iexact Hy2
    isplitl [HtS]; · iexact HtS
    isplitl [HtR]; · iexact HtR
    isplitl [Hr]; · iexact Hr
    isplitl [HO] <;> iassumption
  iintro Hm
  iapply (wp_last m K c _ Q) $$ [Hm]
  · isplitr; · iexact Hc
    iexact Hm
  iintro ⟨Hw0, Hw1, Hy0, Hy1, HO, Hx⟩
  iapply (wp_recvs m K c _ Q 15 0 (by omega)) $$ [HO HcR HatR]
  · isplitr; · iexact Hc
    isplitl [HO]; · iexact HO
    isplitl [HcR] <;> iassumption
  iintro ⟨HO, HatR, Hrows⟩
  iapply (wp_done c Q)
  iapply Hk
  isplitl [HO]; · iexact HO
  isplitl [Hx]; · iexact Hx
  isplitl [Hown Hrows]
  · isplitl [Hown] <;> iassumption
  isplitl [Hw0]; · iexact Hw0
  isplitl [Hw1]; · iexact Hw1
  isplitl [Hy0]; · iexact Hy0
  isplitl [Hy1]; · iexact Hy1
  isplitl [HatB] <;> iassumption

end Cert.A2A

end
-- ==== Proof.Parts.lean ====
/-
A device's buffers and semaphores, taken apart for the body and put together again after it.
-/
module

public import proofs.«01_k».proof.Proof.Body

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 21 → ℕ)

/-! ## The result, its sixteen blocks of rows -/

theorem rows_split (c : Dev nD) (f : Buf (Elt F) ((c : Thread nD τ).loc cc0_stg1_0)) :
    (((c : Thread nD τ).loc cc0_stg1_0) ↦{fullShare} f : sProp 𝕄) = bigSep Finset.univ fun j => rowPts c j f := by
  unfold rowPts
  have h := pointsTo_biUnion (Ix := Unit) (Val := Elt F) (Name := ℕ) (U := UU) (Lvl := ℕ) (ℓ := ((c : Thread nD τ).loc cc0_stg1_0)) (q := fullShare) (f := f)
    (Finset.univ : Finset (Dev nD)) (fun j => (rowM j).view.set) (fun t _ t' _ => row_disjoint t t')
  rw [← h]
  exact congrArg (fun S => (((c : Thread nD τ).loc cc0_stg1_0) ↦[S]{fullShare} f : sProp 𝕄)) row_cover.symm

theorem rows_in (c : Dev nD) (f : Buf (Elt F) ((c : Thread nD τ).loc cc0_stg1_0)) :
    (((c : Thread nD τ).loc cc0_stg1_0) ↦{fullShare} f : sProp 𝕄) ⊢ bigSep Finset.univ fun j => rowAny c j := by
  rw [rows_split]
  exact bigSep_mono fun j _ => show rowPts c j f ⊢ iprop(∃ f, rowPts c j f) from exists_intro f

theorem rows_out (c : Dev nD) :
    (bigSep Finset.univ fun j => rowDone m c j : sProp 𝕄) = (((c : Thread nD τ).loc cc0_stg1_0) ↦{fullShare} outAt m c) :=
  (rows_split c _).symm

/-! ## The scratch buffers, their two slots -/

theorem w_split (c : Dev nD) (f : Buf (Elt F) ((c : Thread nD τ).loc cc0_scratch0)) :
    (((c : Thread nD τ).loc cc0_scratch0) ↦{fullShare} f : sProp 𝕄) ⊢ iprop(wPts c 0 f ∗ wPts c 1 f) := by
  unfold wPts
  refine (pointsTo_split_subset (Finset.subset_univ (wSlot 0).view.set)).1.trans (sep_mono_right ?_)
  exact Entails.of_eq (congrArg (fun S => (((c : Thread nD τ).loc cc0_scratch0) ↦[S]{fullShare} f : sProp 𝕄)) wslot_sdiff)
theorem w_join (c : Dev nD) (f g : Buf (Elt F) ((c : Thread nD τ).loc cc0_scratch0)) :
    iprop(wPts c 0 f ∗ wPts c 1 g) ⊢ (∃ h : Buf (Elt F) ((c : Thread nD τ).loc cc0_scratch0), ((c : Thread nD τ).loc cc0_scratch0) ↦{fullShare} h : sProp 𝕄) := by
  have h1 : wPts c 1 g = (((c : Thread nD τ).loc cc0_scratch0) ↦[Finset.univ \ (wSlot 0).view.set]{fullShare} g : sProp 𝕄) :=
    congrArg (fun S => (((c : Thread nD τ).loc cc0_scratch0) ↦[S]{fullShare} g : sProp 𝕄)) wslot_sdiff.symm
  rw [h1]
  unfold wPts
  iintro H
  ihave H := (pointsTo_join_subset (ℓ := ((c : Thread nD τ).loc cc0_scratch0)) (Finset.subset_univ (wSlot 0).view.set)) $$ H
  iexists _; iexact H

theorem y_split (c : Dev nD) (f : Buf (Elt F) ((c : Thread nD τ).loc cc0_scratch1)) :
    (((c : Thread nD τ).loc cc0_scratch1) ↦{fullShare} f : sProp 𝕄) ⊢ iprop(yPts c 0 f ∗ yPts c 1 f) := by
  unfold yPts
  refine (pointsTo_split_subset (Finset.subset_univ (ySlot 0).view.set)).1.trans (sep_mono_right ?_)
  exact Entails.of_eq (congrArg (fun S => (((c : Thread nD τ).loc cc0_scratch1) ↦[S]{fullShare} f : sProp 𝕄)) yslot_sdiff)
theorem y_join (c : Dev nD) (f g : Buf (Elt F) ((c : Thread nD τ).loc cc0_scratch1)) :
    iprop(yPts c 0 f ∗ yPts c 1 g) ⊢ (∃ h : Buf (Elt F) ((c : Thread nD τ).loc cc0_scratch1), ((c : Thread nD τ).loc cc0_scratch1) ↦{fullShare} h : sProp 𝕄) := by
  have h1 : yPts c 1 g = (((c : Thread nD τ).loc cc0_scratch1) ↦[Finset.univ \ (ySlot 0).view.set]{fullShare} g : sProp 𝕄) :=
    congrArg (fun S => (((c : Thread nD τ).loc cc0_scratch1) ↦[S]{fullShare} g : sProp 𝕄)) yslot_sdiff.symm
  rw [h1]
  unfold yPts
  iintro H
  ihave H := (pointsTo_join_subset (ℓ := ((c : Thread nD τ).loc cc0_scratch1)) (Finset.subset_univ (ySlot 0).view.set)) $$ H
  iexists _; iexact H

/-! ## The whole of `w`, read with two shares -/

/-- All of `w`, as device `c` was given it. -/
def wAll (c : Dev nD) : sProp 𝕄 := ((c : Thread nD τ).loc main_arg1) ↦{fullShare} m ((c : Thread nD τ).loc main_arg1)

theorem arg_halves (c : Dev nD) : wAll m c ⊣⊢ iprop(argPts m c 0 ∗ argPts m c 1) := by
  unfold wAll argPts
  rw [show shr 0 = fullShare.left from rfl, show shr 1 = fullShare.right from rfl]
  exact pointsTo_share (PosShare.mem_left_op_right fullShare)

/-! ## The twenty-one semaphores -/

theorem cells_split (c : Dev nD) (Φ : GSem nD τ sig → sProp 𝕄) :
    (bigSep Finset.univ fun i : Fin 21 => Φ (kcell (c, i)))
      = iprop(Φ (barCell c) ∗ Φ (wCell c 0) ∗ Φ (wCell c 1) ∗ Φ (sCell c 0) ∗ Φ (sCell c 1) ∗ bigSep Finset.univ fun j : Dev nD => Φ (rCell c j)) := by
  rw [bigSep_univ_eq_bigSepL [0, 1, 2, 3, 4, 5, 6, 7, 8, 9, 10, 11, 12, 13, 14, 15, 16, 17, 18, 19, 20] (by decide) (by decide) fun i : Fin 21 => Φ (kcell (c, i)),
    bigSep_univ_eq_bigSepL ([0, 1, 2, 3, 4, 5, 6, 7, 8, 9, 10, 11, 12, 13, 14, 15] : List (Fin 16)) (by decide) (by decide) fun j : Fin 16 => Φ (rCell c j)]
  have hw : ∀ p : Fin 2, wCell c p = kcell (c, ixW p) := fun p => congrArg (Prod.mk _) (csem_w p).symm
  have hs : ∀ p : Fin 2, sCell c p = kcell (c, ixS p) := fun p => congrArg (Prod.mk _) (csem_s p).symm
  have hr : ∀ j : Dev nD, rCell c j = kcell (c, ixR j) := fun j => congrArg (Prod.mk _) (csem_r j).symm
  simp only [hw, hs, hr]
  rfl

theorem under {I : Type} [DecidableEq I] {S : Finset I} {R : sProp 𝕄} [BI.Persistent R] {Φ Ψ : I → sProp 𝕄}
    (h : ∀ i ∈ S, iprop(R ∗ Φ i) ⊢ |={Set.univ}=> Ψ i) : iprop(R ∗ bigSep S Φ) ⊢ |={Set.univ}=> bigSep S Ψ :=
  ((sep_mono_left (BI.bigSep_of_persistent S R)).trans (by rw [← bigSep_sep']; exact bigSep_mono h)).trans (bigSep_fupd _ _)

theorem close_at (g : GSem nD τ sig) (κ R : ℕ) (h : ∀ r, R ≤ r → (sched m).duties g r = ∅) :
    iprop(cellInv ER (sched m) κ g ∗ atPos ER g R ∅ 0) ⊢ |={Set.univ}=> semVal g 0 :=
  Rounds.cell_close ER (sched m) (Set.mem_univ κ) (fun h => h) (R := R) h

/-- Each semaphore has had its last round: all are at zero. -/
theorem close_all (c : Dev nD) :
    iprop(records m K ∗ (atPos ER (barCell c) 1 ∅ 0 ∗ atPos ER (wCell c 0) 8 ∅ 0 ∗ atPos ER (wCell c 1) 8 ∅ 0
        ∗ atPos ER (sCell c 0) 7 ∅ 0 ∗ atPos ER (sCell c 1) 8 ∅ 0
        ∗ atPos ER (rCell c c) 0 ∅ 0 ∗ bigSep (Finset.univ.erase c) fun j => atPos ER (rCell c j) 1 ∅ 0))
      ⊢ |={Set.univ}=> bigSep Finset.univ fun i : Fin 21 => (semVal (kcell (c, i)) 0 : sProp 𝕄) := by
  rw [cells_split c fun g => semVal g 0]
  iintro ⟨#Hr, HB, Hw0, Hw1, Hs0, Hs1, Hown, Hrs⟩
  imod (close_at m (barCell c) (K (c, 0)) 1 (fun r h => duties_bar_later m c r h)) $$ [HB] with HB
  · isplitr; · iapply (inv_bar m K c); iexact Hr
    iexact HB
  imod (close_at m (wCell c 0) (K (c, ixW 0)) 8 (fun r h => by rw [duties_w, if_neg (by omega)])) $$ [Hw0] with Hw0
  · isplitr; · iapply (inv_w m K c 0); iexact Hr
    iexact Hw0
  imod (close_at m (wCell c 1) (K (c, ixW 1)) 8 (fun r h => by rw [duties_w, if_neg (by omega)])) $$ [Hw1] with Hw1
  · isplitr; · iapply (inv_w m K c 1); iexact Hr
    iexact Hw1
  imod (close_at m (sCell c 0) (K (c, ixS 0)) 7 (fun r h => (duties_s m c 0 r).trans (if_neg (show ¬ (2 * r + 2 < 16 + 0) by omega)))) $$ [Hs0] with Hs0
  · isplitr; · iapply (inv_s m K c 0); iexact Hr
    iexact Hs0
  imod (close_at m (sCell c 1) (K (c, ixS 1)) 8 (fun r h => (duties_s m c 1 r).trans (if_neg (show ¬ (2 * r + 2 < 16 + 1) by omega)))) $$ [Hs1] with Hs1
  · isplitr; · iapply (inv_s m K c 1); iexact Hr
    iexact Hs1
  imod (close_at m (rCell c c) (K (c, ixR c)) 0 (fun r h => by rw [duties_r, if_neg (fun e => e.2 rfl)])) $$ [Hown] with Hown
  · isplitr; · iapply (inv_r m K c c); iexact Hr
    iexact Hown
  imod (under (R := records m K) (S := Finset.univ.erase c) (Φ := fun j => atPos ER (rCell c j) 1 ∅ 0) (Ψ := fun j => semVal (rCell c j) 0) (fun j _ => by
      iintro ⟨#Hr, H⟩
      iapply (close_at m (rCell c j) (K (c, ixR j)) 1 (fun r h => by rw [duties_r, if_neg (fun e => by omega)]))
      isplitr; · iapply (inv_r m K c j); iexact Hr
      iexact H)) $$ [Hrs] with Hrs
  · isplitr; · iexact Hr
    iexact Hrs
  imodintro
  isplitl [HB]; · iexact HB
  isplitl [Hw0]; · iexact Hw0
  isplitl [Hw1]; · iexact Hw1
  isplitl [Hs0]; · iexact Hs0
  isplitl [Hs1]; · iexact Hs1
  iapply (Entails.of_eq (bigSep_univ_at (fun j => (semVal (rCell c j) 0 : sProp 𝕄)) c).symm)
  isplitl [Hown] <;> iassumption

end Cert.A2A

end
-- ==== Proof.Region.lean ====
/-
The call's proof data: what a device holds before and after its body, and that its body takes it from the one to the
other.
-/
module

public import proofs.«01_k».proof.Proof.Parts

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 21 → ℕ)

open Idealize.ShloMosaic.Pipeline (Dat BodyObligation)

/-! ## What a device starts from and ends with -/

/-- The positions of its semaphores. -/
def cellAts (c : Dev nD) : sProp 𝕄 := bigSep Finset.univ fun i : Fin 21 => atPos ER (kcell (c, i)) 0 ∅ 0
/-- The tokens of the duties it pays. -/
def toks (c : Dev nD) : sProp 𝕄 :=
  iprop(bigSep (Finset.Ico 1 16) (tokB (F := F) c) ∗ bigSep (Finset.Ico 0 16) (tokW (F := F) c)
    ∗ bigSep (Finset.Ico 1 16) (tokS (F := F) c) ∗ bigSep (Finset.Ico 1 16) (tokR (F := F) c))
/-- What its peers owe it. -/
def creds (c : Dev nD) : sProp 𝕄 :=
  iprop(cred (tallyAt (barCell c) () 15) ∗ bigSep (Finset.univ.erase c) fun j => (cred (tallyAt (rCell c j) () N) : sProp 𝕄))
def dealt (c : Dev nD) : sProp 𝕄 := iprop(∃ K : Dev nD × Fin 21 → ℕ, records m K ∗ cellAts c ∗ toks c)
def start (c : Dev nD) : sProp 𝕄 := iprop(dealt m c ∗ lvls ∗ creds c ∗ wAll m c)
/-- The two scratch buffers, at any contents. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)
def Φ₀ (c : Dev nD) : sProp 𝕄 := iprop(start m c ∗ scratch c)
def zeros (c : Dev nD) : sProp 𝕄 := bigSep Finset.univ fun i : Fin 21 => semVal (kcell (c, i)) 0
def Φ₁ (c : Dev nD) : sProp 𝕄 := iprop(zeros c ∗ wAll m c ∗ scratch c)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## In and out of the body -/

theorem toks_open (c : Dev nD) : toks (F := F) c = iprop(bigSep (Finset.Ico 1 16) (tokB (F := F) c) ∗ bigSep (Finset.Ico 0 16) (tokW (F := F) c)
    ∗ bigSep (Finset.Ico 1 16) (tokS (F := F) c) ∗ bigSep (Finset.Ico 1 16) (tokR (F := F) c)) := rfl
theorem creds_open (c : Dev nD) : creds (F := F) c
    = iprop(cred (tallyAt (barCell c) () 15) ∗ bigSep (Finset.univ.erase c) fun j => (cred (tallyAt (rCell c j) () N) : sProp 𝕄)) := rfl
theorem cellAts_open (c : Dev nD) : cellAts (F := F) c
    = iprop(atPos ER (barCell c) 0 ∅ 0 ∗ atPos ER (wCell c 0) 0 ∅ 0 ∗ atPos ER (wCell c 1) 0 ∅ 0 ∗ atPos ER (sCell c 0) 0 ∅ 0 ∗ atPos ER (sCell c 1) 0 ∅ 0
      ∗ (atPos ER (rCell c c) 0 ∅ 0 ∗ bigSep (Finset.univ.erase c) fun j : Dev nD => atPos ER (rCell c j) 0 ∅ 0)) := by
  rw [← bigSep_univ_at (fun j : Dev nD => (atPos ER (rCell c j) 0 ∅ 0 : sProp 𝕄)) c]
  exact cells_split c fun g => atPos ER g 0 ∅ 0

theorem wFree_intro (c : Dev nD) (p : Fin 2) (r : ℕ) (f : Buf (Elt F) ((wSlot p).view.loc (c : Thread nD τ))) :
    iprop(wPts c p f ∗ argPts m c p ∗ atPos ER (wCell c p) r ∅ 0 ∗ reached ER (wCell c p) r) ⊢ wFree m c p r := by
  unfold wFree
  iintro ⟨H1, H2⟩
  isplitl [H1]; · iexists f; iexact H1
  iexact H2
theorem yFree_intro (c : Dev nD) (p : Fin 2) (r : ℕ) (f : Buf (Elt F) ((ySlot p).view.loc (c : Thread nD τ))) :
    iprop(yPts c p f ∗ atPos ER (sCell c p) r ∅ 0 ∗ reached ER (sCell c p) r) ⊢ yFree c p r := by
  unfold yFree yAny
  iintro ⟨H1, H2⟩
  isplitl [H1]; · iexists f; iexact H1
  iexact H2

theorem body_in (c : Dev nD) (f0 : Buf (Elt F) ((c : Thread nD τ).loc cc0_scratch0)) (f1 : Buf (Elt F) ((c : Thread nD τ).loc cc0_scratch1))
    (fo : Buf (Elt F) ((c : Thread nD τ).loc cc0_stg1_0)) :
    iprop(records m K ∗ cellAts c ∗ toks c ∗ creds c ∗ wAll m c ∗ (((c : Thread nD τ).loc cc0_scratch0) ↦{fullShare} f0)
        ∗ (((c : Thread nD τ).loc cc0_scratch1) ↦{fullShare} f1) ∗ Ow c (O₀ c) ∗ xPts m c ∗ (((c : Thread nD τ).loc cc0_stg1_0) ↦{fullShare} fo))
      ⊢ iprop(bodyIn m c ∗ atPos ER (rCell c c) 0 ∅ 0) := by
  rw [cellAts_open, toks_open, creds_open]
  unfold bodyIn
  iintro ⟨#Hr, ⟨HaB, Haw0, Haw1, Has0, Has1, Haown, Har⟩, ⟨HtB, HtW, HtS, HtR⟩, ⟨HcB, HcR⟩, Hw, Hs0, Hs1, HO, Hx, Ho⟩
  ihave Hw := (arg_halves m c).1 $$ Hw
  icases Hw with ⟨Hwl, Hwr⟩
  ihave Hs0 := (w_split c f0) $$ Hs0
  icases Hs0 with ⟨Hw0, Hw1⟩
  ihave Hs1 := (y_split c f1) $$ Hs1
  icases Hs1 with ⟨Hy0, Hy1⟩
  isplitr [Haown]
  · isplitl [HO]; · iexact HO
    isplitl [Hx]; · iexact Hx
    isplitl [Ho]; · iapply (rows_in c fo); iexact Ho
    isplitl [Hw0 Hwl Haw0]
    · iapply (wFree_intro m c 0 0 f0)
      isplitl [Hw0]; · iexact Hw0
      isplitl [Hwl]; · iexact Hwl
      isplitl [Haw0]; · iexact Haw0
      iapply (reached_w m K c 0); iexact Hr
    isplitl [Hw1 Hwr Haw1]
    · iapply (wFree_intro m c 1 0 f0)
      isplitl [Hw1]; · iexact Hw1
      isplitl [Hwr]; · iexact Hwr
      isplitl [Haw1]; · iexact Haw1
      iapply (reached_w m K c 1); iexact Hr
    isplitl [Hy1 Has1]
    · iapply (yFree_intro c 1 0 f1)
      isplitl [Hy1]; · iexact Hy1
      isplitl [Has1]; · iexact Has1
      iapply (reached_s m K c 1); iexact Hr
    isplitl [Hy0 Has0]
    · iapply (yFree_intro c 0 0 f1)
      isplitl [Hy0]; · iexact Hy0
      isplitl [Has0]; · iexact Has0
      iapply (reached_s m K c 0); iexact Hr
    isplitl [HcB]; · iexact HcB
    isplitl [HaB]; · iexact HaB
    isplitl [HtB]; · iexact HtB
    isplitl [HtW]; · iexact HtW
    isplitl [HtS]; · iexact HtS
    isplitl [HtR]; · iexact HtR
    isplitl [HcR]; · iexact HcR
    iexact Har
  iexact Haown

theorem body_out (c : Dev nD) :
    iprop(records m K ∗ bodyOut m c ∗ atPos ER (rCell c c) 0 ∅ 0)
      ⊢ |={Set.univ}=> iprop(Φ₁ m c ∗ Ow c 0 ∗ xPts m c ∗ (((c : Thread nD τ).loc cc0_stg1_0) ↦{fullShare} outAt m c)) := by
  unfold bodyOut wFree yFree yAny Φ₁ scratch zeros
  iintro ⟨#Hr, ⟨HO, Hx, Hrows, ⟨⟨%f0, Hw0⟩, Hwl, Haw0, -⟩, ⟨⟨%f1, Hw1⟩, Hwr, Haw1, -⟩, ⟨⟨%g0, Hy0⟩, Has0, -⟩, ⟨⟨%g1, Hy1⟩, Has1, -⟩, HaB, Har⟩, Haown⟩
  imod (close_all m K c) $$ [HaB Haw0 Haw1 Has0 Has1 Haown Har] with Hz
  · isplitr; · iexact Hr
    isplitl [HaB]; · iexact HaB
    isplitl [Haw0]; · iexact Haw0
    isplitl [Haw1]; · iexact Haw1
    isplitl [Has0]; · iexact Has0
    isplitl [Has1]; · iexact Has1
    isplitl [Haown] <;> iassumption
  imodintro
  isplitr [HO Hx Hrows]
  · isplitl [Hz]; · iexact Hz
    isplitl [Hwl Hwr]
    · iapply (arg_halves m c).2
      isplitl [Hwl] <;> iassumption
    isplitl [Hw0 Hw1]
    · iapply (w_join c f0 f1)
      isplitl [Hw0] <;> iassumption
    iapply (y_join c g0 g1)
    isplitl [Hy0] <;> iassumption
  isplitl [HO]; · iexact HO
  isplitl [Hx]; · iexact Hx
  iapply (Entails.of_eq (rows_out m c)); iexact Hrows

/-! ## The obligation -/

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owed_in (c : Dev nD) : (dats m 0 c).owesAt () t0_0.castSucc ⊢ Ow c (O₀ c) := by
  unfold Dat.owesAt Pipeline.owesWithin Ow
  iintro ⟨%W, -, H⟩
  iexists W; iexact H
theorem owed_out (c : Dev nD) : Ow c 0 ⊢ (dats m 0 c).owesAt () t0_0.succ := by
  unfold Dat.owesAt Pipeline.owesWithin Ow
  iintro ⟨%W, H⟩
  iexists W
  isplitr; · ipureintro; exact fun _ _ => Or.inl trivial
  iexact H

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt () t0_0.succ ∗ stg c cc0_stg0_0 (xs m c) ∗ stg c cc0_stg1_0 (outAt m c))

theorem wp_text (c : Dev nD) (Q : PUnit → sProp 𝕄) : Wp c (bodyT c) Q ⊢ Wp c (.op .deviceId fun c => bodyT c) Q := by
  unfold Wp
  rw [wp_deviceId]

theorem wp_fupd_post (c : Dev nD) (p : Pg F) (Q : PUnit → sProp 𝕄) : Wp c p (fun u => iprop(|={Set.univ}=> Q u)) ⊢ Wp c p Q := by
  unfold Wp
  exact wp_fupd _ _ _ p Q

theorem xPts_open (c : Dev nD) : xPts m c = (((c : Thread nD τ).loc cc0_stg0_0) ↦{fullShare} xs m c) := rfl

theorem sound_body (c : Dev nD) :
    bodyPre m c ⊢ Wp c (.op .deviceId fun c => bodyT c) (fun _ => bodyPost m c) := by
  unfold bodyPre Φ₀ start dealt scratch
  iintro ⟨⟨⟨⟨%K, #Hr, Hat, Ht⟩, #Hl, Hc, Hw⟩, ⟨%f0, Hs0⟩, ⟨%f1, Hs1⟩⟩, HO, ⟨%d0, %g0, %hg0, Hx⟩, ⟨%d1, %g1, %hg1, Ho⟩⟩
  have hx : g0 = xs m c := by rw [hg0]; unfold Dat.before; rw [if_pos (fetch_0 t0_0)]; rfl
  subst hx
  ihave HO := (owed_in m c) $$ HO
  ihave Hin := (body_in m K c f0 f1 g1) $$ [Hat Ht Hc Hw Hs0 Hs1 HO Hx Ho]
  · isplitr; · iexact Hr
    isplitl [Hat]; · iexact Hat
    isplitl [Ht]; · iexact Ht
    isplitl [Hc]; · iexact Hc
    isplitl [Hw]; · iexact Hw
    isplitl [Hs0]; · iexact Hs0
    isplitl [Hs1]; · iexact Hs1
    isplitl [HO]; · iexact HO
    isplitl [Hx]; · iapply (Entails.of_eq (xPts_open m c).symm); iexact Hx
    iexact Ho
  icases Hin with ⟨Hin, Hown⟩
  iapply (wp_text c)
  iapply (wp_fupd_post c)
  iapply (wp_body m K c) $$ [Hin]
  · isplitr
    · unfold ctx; isplitr; · iexact Hr
      iexact Hl
    iexact Hin
  iintro Hout
  imod (body_out m K c) $$ [Hout Hown] with ⟨HΦ, HO, Hx, Ho⟩
  · isplitr; · iexact Hr
    isplitl [Hout] <;> iassumption
  imodintro
  unfold bodyPost
  isplitl [HΦ]; · iexact HΦ
  isplitl [HO]; · iapply (owed_out m c); iexact HO
  isplitl [Hx]
  · iexists _; isplitr; · (ipureintro; rfl)
    iapply (Entails.of_eq (xPts_open m c)); iexact Hx
  iexists _; isplitr; · (ipureintro; rfl)
  iexact Ho

theorem bigSep_W (Φ : Fin cfg0.W → sProp 𝕄) : bigSep Finset.univ Φ = iprop(Φ (0 : Fin 2) ∗ Φ (1 : Fin 2)) := bigSep_W0 Φ

set_option maxRecDepth 8000 in
theorem body_obligation (c : Dev nD) : BodyObligation (dats (F := F) m 0 c) (defs₀ (F := F)) 𝒱₀ () Set.univ := fun t => by
  rw [fin_N0 t]
  rw [bigSep_W, bigSep_W]
  simp only [owns_whole_eq]
  have h := sound_body m c
  rw [← body_text] at h
  exact h

end Cert.A2A

end
-- ==== Proof.Mint.lean ====
/-
The protocol's ghost state at the launch: every token is minted for the device that pays with it, and every semaphore of
every device gets its invariant.
-/
module

public import proofs.«01_k».proof.Proof.Region

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 21 → ℕ)

/-! ## The cells and the tokens -/

/-- The kernel's own semaphores. -/
def osem (i : Fin 20) : SemLoc sig := .dma (⟨i.val + 2, by have := i.isLt; show _ < 22; omega⟩ : Fin 22)

theorem csem_injective : Function.Injective csem := by decide +kernel
theorem kcell_injective : Function.Injective (kcell : Dev nD × Fin 21 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The round step `k` pays a departure in; step 0 sends nothing, and its token is of a round that never comes. -/
def sRound (k : ℕ) : ℕ := if k = 0 then 100 else (k - 1) / 2

/-- Device `c`'s token of sort `t` for step `k`. -/
def tokOf (x : Dev nD × Fin 4 × Fin 16) : GSem nD τ sig × ℕ × Dev nD := match x.2.1 with
  | 0 => (barCell (peer x.1 x.2.2.val), 0, x.1)
  | 1 => (wCell x.1 (par x.2.2.val), x.2.2.val / 2, d0)
  | 2 => (sCell x.1 (par x.2.2.val), sRound x.2.2.val, d0)
  | 3 => (rCell (peer x.1 x.2.2.val) x.1, 0, d0)

theorem par_eq {k k' : ℕ} (h : par k = par k') : k % 2 = k' % 2 := congrArg Fin.val h

theorem sort_of (x : Dev nD × Fin 4 × Fin 16) : kind (tokOf x).1.2 = match x.2.1 with
    | 0 => .bar | 1 => .fetch (par x.2.2.val) | 2 => .depart (par x.2.2.val) | 3 => .arrive x.1 := by
  obtain ⟨c, t, k⟩ := x
  match t with
  | 0 => rfl
  | 1 => exact kind_w _
  | 2 => exact kind_s _
  | 3 => exact kind_r _

theorem tokOf_injective : Function.Injective tokOf := by
  rintro ⟨c, t, k⟩ ⟨c', t', k'⟩ h
  have hs := (sort_of (c, t, k)).symm.trans ((congrArg (fun x : GSem nD τ sig × ℕ × Dev nD => kind x.1.2) h).trans (sort_of (c', t', k')))
  have hd : (tokOf (c, t, k)).1.1.1 = (tokOf (c', t', k')).1.1.1 := congrArg (fun x : GSem nD τ sig × ℕ × Dev nD => x.1.1.1) h
  have hr : (tokOf (c, t, k)).2.1 = (tokOf (c', t', k')).2.1 := congrArg (fun x : GSem nD τ sig × ℕ × Dev nD => x.2.1) h
  have hp : (tokOf (c, t, k)).2.2 = (tokOf (c', t', k')).2.2 := congrArg (fun x : GSem nD τ sig × ℕ × Dev nD => x.2.2) h
  have hk := k.isLt
  have hk' := k'.isLt
  clear h
  match t, t' with
  | 0, 0 =>
    have e : c = c' := hp
    subst e
    rw [Fin.ext (peer_inj c hk hk' hd)]
  | 1, 1 =>
    have e : c = c' := hd
    subst e
    have e1 : k.val % 2 = k'.val % 2 := par_eq (Kind.fetch.inj hs)
    have e2 : k.val / 2 = k'.val / 2 := hr
    rw [show k = k' from Fin.ext (by omega)]
  | 2, 2 =>
    have e : c = c' := hd
    subst e
    have e1 : k.val % 2 = k'.val % 2 := par_eq (Kind.depart.inj hs)
    have e2 : sRound k.val = sRound k'.val := hr
    unfold sRound at e2
    rw [show k = k' from Fin.ext (by split at e2 <;> split at e2 <;> omega)]
  | 3, 3 =>
    have e : c = c' := Kind.arrive.inj hs
    subst e
    rw [Fin.ext (peer_inj c hk hk' hd)]
  | 0, 1 => cases hs
  | 0, 2 => cases hs
  | 0, 3 => cases hs
  | 1, 0 => cases hs
  | 1, 2 => cases hs
  | 1, 3 => cases hs
  | 2, 0 => cases hs
  | 2, 1 => cases hs
  | 2, 3 => cases hs
  | 3, 0 => cases hs
  | 3, 1 => cases hs
  | 3, 2 => cases hs
def allToks : Finset (GSem nD τ sig × ℕ × Dev nD) := Finset.univ.map ⟨tokOf, tokOf_injective⟩

/-! ## A device's tokens -/

def tokAt (x : GSem nD τ sig × ℕ × Dev nD) : sProp 𝕄 := dutyTok ER x.1 x.2.1 x.2.2

theorem steps_eq (Φ : ℕ → sProp 𝕄) : (bigSep Finset.univ fun k : Fin 16 => Φ k.val) = bigSep (Finset.Ico 0 16) Φ := by
  rw [show Finset.Ico 0 16 = (Finset.univ : Finset (Fin 16)).map Fin.valEmbedding by decide, bigSep_map]
  rfl
theorem steps_from (Φ : ℕ → sProp 𝕄) : (bigSep Finset.univ fun k : Fin 16 => Φ k.val) ⊢ bigSep (Finset.Ico 1 16) Φ := by
  rw [steps_eq]
  exact bigSep_subset (by decide)

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem toks_of (c : Dev nD) :
    (bigSep Finset.univ fun t : Fin 4 => bigSep Finset.univ fun k : Fin 16 => tokAt (tokOf (c, t, k)) : sProp 𝕄) ⊢ toks c := by
  rw [four]
  unfold toks
  have hS : (bigSep (Finset.Ico 1 16) fun k => tokAt (F := F) (sCell c (par k), sRound k, d0)) = bigSep (Finset.Ico 1 16) (tokS (F := F) c) :=
    bigSep_congr fun k hk => by
      have : sRound k = (k - 1) / 2 := if_neg (by have := (Finset.mem_Ico.mp hk).1; omega)
      unfold tokAt tokS; rw [this]
  iintro ⟨H0, H1, H2, H3⟩
  isplitl [H0]; · iapply (steps_from (tokB (F := F) c)); iexact H0
  isplitl [H1]; · iapply (Entails.of_eq (steps_eq (tokW (F := F) c))); iexact H1
  isplitl [H2]
  · iapply (Entails.of_eq hS)
    iapply (steps_from fun k => tokAt (F := F) (sCell c (par k), sRound k, d0)); iexact H2
  iapply (steps_from (tokR (F := F) c)); iexact H3

/-! ## The launch's element -/

def u₀ : UU := (initOf (Pipeline.cells cfgs cellOf_inj) (Pipeline.launchToks cfgs cellOf_inj), initOf allCells allToks)

/-- What the launch deals device `c`. -/
def given (c : Dev nD) : sProp 𝕄 :=
  iprop((bigSep Finset.univ fun k : Fin 21 => roundState ER (sched m) (kcell (c, k)) 0)
    ∗ cellAts c ∗ (bigSep Finset.univ fun k : Fin 21 => reached ER (kcell (c, k)) 0) ∗ toks c)

theorem fund : BI.own (ER (initOf allCells allToks)) ⊢ (|==> bigSep Finset.univ (given m) : sProp 𝕄) := by
  have hX (Φ : GSem nD τ sig → sProp 𝕄) : bigSep allCells Φ = bigSep Finset.univ fun c : Dev nD => bigSep Finset.univ fun k : Fin 21 => Φ (kcell (c, k)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun t : Fin 4 => bigSep Finset.univ fun k : Fin 16 => tokAt (tokOf (c, t, k)) := by
    unfold allToks; rw [bigSep_map, bigSep_univ_prod]
    exact bigSep_congr fun c _ => bigSep_univ_prod _
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := ((Entails.of_eq hT).trans (bigSep_mono fun c _ => toks_of c)) $$ Htok
  unfold given
  simp only [bigSep_sep']
  isplitl [Hst]; · iexact Hst
  isplitl [Hat]; · iexact Hat
  isplitl [Hr] <;> iassumption

/-! ## The invariants -/

theorem sems_eq (c : Dev nD) :
    iprop(Pipeline.ownSems0 (Ix := Unit) (Name := ℕ) (U := UU) (Lvl := ℕ) (Val := Elt F) (τ := τ) osem c ∗ unscopedSems0 c) ⊣⊢ (zeros c : sProp 𝕄) := by
  have ho : (Pipeline.ownSems0 (Ix := Unit) (Name := ℕ) (U := UU) (Lvl := ℕ) (Val := Elt F) (τ := τ) osem c : sProp 𝕄)
      = bigSepL [0, 1, 2, 3, 4, 5, 6, 7, 8, 9, 10, 11, 12, 13, 14, 15, 16, 17, 18, 19] fun k : Fin 20 => semVal ((c : Thread nD τ), osem k) 0 :=
    Pipeline.ownSems0_eq_of_list c osem _ (by decide) (by decide)
  have hu : (unscopedSems0 c : sProp 𝕄) = semVal (barCell c) 0 := by
    unfold unscopedSems0; rw [bigSep_eq_bigSepL_of_eq [SemLoc.reg barS] (by decide) (by decide)]; rfl
  have hz : (zeros c : sProp 𝕄) = bigSepL [0, 1, 2, 3, 4, 5, 6, 7, 8, 9, 10, 11, 12, 13, 14, 15, 16, 17, 18, 19, 20] fun k : Fin 21 => semVal (kcell (c, k)) 0 :=
    bigSep_univ_eq_bigSepL _ (by decide) (by decide) _
  have hzo : (zeros c : sProp 𝕄) = iprop(unscopedSems0 c ∗ Pipeline.ownSems0 osem c) := by
    rw [ho, hu, hz]; rfl
  rw [hzo]
  exact sep_comm

theorem core_alloc (c : Dev nD) :
    iprop(Pipeline.ownSems0 (Ix := Unit) (Name := ℕ) (U := UU) (Lvl := ℕ) (Val := Elt F) (τ := τ) osem c ∗ unscopedSems0 c ∗ given m c)
      ⊢ |={Set.univ}=> iprop((bigSep Finset.univ fun k => iprop(∃ κ : ℕ, cellInv ER (sched m) κ (kcell (c, k))))
          ∗ (bigSep Finset.univ fun k : Fin 21 => reached ER (kcell (c, k)) 0) ∗ cellAts c ∗ toks c) := by
  unfold given
  iintro ⟨Hos, Hus, Hst, Hat, Hr, Htok⟩
  ihave Hv := (sems_eq (F := F) c).1 $$ [Hos Hus]
  · isplitl [Hos] <;> iassumption
  imod (show iprop(zeros c ∗ bigSep Finset.univ fun k : Fin 21 => roundState ER (sched m) (kcell (c, k)) 0)
      ⊢ (|={Set.univ}=> bigSep Finset.univ fun k => iprop(∃ κ : ℕ, cellInv ER (sched m) κ (kcell (c, k))) : sProp 𝕄) from by
        unfold zeros
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

theorem under' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : Fin 21 => reached ER (kcell (c, k)) 0) ∗ cellAts c ∗ toks c) : sProp 𝕄)
      ⊢ bigSep Finset.univ (dealt m) := by
  rw [bigSep_sep', bigSep_sep', ← bigSep_univ_prod (fun ck : Dev nD × Fin 21 => iprop(∃ κ : ℕ, cellInv ER (sched m) κ (kcell ck))),
    ← bigSep_univ_prod (fun ck : Dev nD × Fin 21 => (reached ER (kcell ck) 0 : sProp 𝕄))]
  iintro ⟨HI, HR, Hrest⟩
  ihave HK := (BI.bigSep_exists_pi Finset.univ (fun (ck : Dev nD × Fin 21) (κ : ℕ) => (cellInv ER (sched m) κ (kcell ck) : sProp 𝕄))) $$ HI
  icases HK with ⟨%K, HI⟩
  iapply (under' (R := records m K) (Φ := fun c : Dev nD => iprop(cellAts c ∗ toks c)) fun c _ => by
    unfold dealt
    iintro ⟨#Hr, Ha, Ht⟩
    iexists K
    isplitr; · iexact Hr
    isplitl [Ha] <;> iassumption)
  isplitl [HI HR]
  · unfold records
    isplitl [HI] <;> iassumption
  iexact Hrest

/-- All the semaphores of all the devices at once. -/
theorem glob : (bigSep Finset.univ fun c => iprop(Pipeline.ownSems0 (Ix := Unit) (Name := ℕ) (U := UU) (Lvl := ℕ) (Val := Elt F) (τ := τ) osem c ∗ unscopedSems0 c ∗ given m c) : sProp 𝕄)
    ⊢ |={Set.univ}=> bigSep Finset.univ (dealt m) :=
  ((bigSep_mono fun c _ => core_alloc m c).trans (bigSep_fupd _ _)).trans (BI.fupd_mono (regroup m))

end Cert.A2A

end
-- ==== Proof.Credit.lean ====
/-
What every device's semaphores are owed at the launch.
-/
module

public import proofs.«01_k».proof.Proof.Region

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 21 → ℕ)

theorem cell_eq {a b : Dev nD} {s t : SemLoc sig} (h : ((a : Thread nD τ), s) = ((b : Thread nD τ), t)) : a = b ∧ s = t :=
  ⟨congrArg (fun g : GSem nD τ sig => g.1.1) h, congrArg Prod.snd h⟩
theorem bar_ne_r (j : Dev nD) : SemLoc.reg barS ≠ (SemLoc.dma (rSem j) : SemLoc sig) := fun h => by cases h
theorem rSem_injective : Function.Injective rSem := by decide +kernel

/-- Among the fifteen peers of `d`, each device other than `d` is met once. -/
theorem met : ∀ d c : Dev nD, (∑ k ∈ Finset.Ico 1 16, if peer d k = c then 1 else 0) = if d = c then 0 else 1 := by decide +kernel
theorem others : ∀ c : Dev nD, (∑ d : Dev nD, if d = c then 0 else 1) = 15 := by decide +kernel

theorem owed_bar (d c : Dev nD) : O₀ d (barCell c) () = if d = c then 0 else 1 := by
  rw [← met d c]
  unfold O₀ oweR oweB
  rw [Pi.add_apply, Finsupp.add_apply, Finset.sum_apply, Finset.sum_apply, Finsupp.finset_sum_apply, Finsupp.finset_sum_apply,
    Finset.sum_eq_zero (s := Finset.Ico 1 16) (f := fun k => (tallyAt (rCell (peer d k) d) () N : CellTallies nD τ sig Unit) (barCell c) ())
      (fun k _ => by rw [tallyAt_apply, if_neg (fun e => bar_ne_r d (cell_eq e.1).2)]), zero_add]
  refine Finset.sum_congr rfl fun k _ => ?_
  rw [tallyAt_apply]
  by_cases h : peer d k = c
  · rw [if_pos ⟨by rw [h], rfl⟩, if_pos h]
  · rw [if_neg (fun e => h (cell_eq e.1).1.symm), if_neg h]

theorem owed_r {c j : Dev nD} (hj : j ≠ c) (d : Dev nD) : O₀ d (rCell c j) () = if d = j then N else 0 := by
  unfold O₀ oweR oweB
  rw [Pi.add_apply, Finsupp.add_apply, Finset.sum_apply, Finset.sum_apply, Finsupp.finset_sum_apply, Finsupp.finset_sum_apply,
    Finset.sum_eq_zero (s := Finset.Ico 1 16) (f := fun k => (tallyAt (barCell (peer d k)) () 1 : CellTallies nD τ sig Unit) (rCell c j) ())
      (fun k _ => by rw [tallyAt_apply, if_neg (fun e => bar_ne_r j (cell_eq e.1).2.symm)]), add_zero]
  by_cases hd : d = j
  · subst hd
    rw [if_pos rfl]
    have h : ∀ k ∈ Finset.Ico 1 16, (tallyAt (rCell (peer d k) d) () N : CellTallies nD τ sig Unit) (rCell c d) () = (if peer d k = c then 1 else 0) * N := fun k _ => by
      rw [tallyAt_apply]
      by_cases h : peer d k = c
      · rw [if_pos ⟨by rw [h], rfl⟩, if_pos h, one_mul]
      · rw [if_neg (fun e => h (cell_eq e.1).1.symm), if_neg h, zero_mul]
    rw [Finset.sum_congr rfl h, ← Finset.sum_mul, met, if_neg hj, one_mul]
  · rw [if_neg hd]
    exact Finset.sum_eq_zero fun k _ => by
      rw [tallyAt_apply, if_neg (fun e => hd (rSem_injective (SemLoc.dma.inj (cell_eq e.1).2)).symm)]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, others]

theorem launch_r {c j : Dev nD} (hj : j ≠ c) :
    tallyOn (rCell c j) (launchCredit (Pipeline.owing O₀) 0 (rCell c j)) = (tallyAt (rCell c j) () N : CellTallies nD τ sig Unit) := by
  unfold tallyAt; refine congrArg _ (Finsupp.ext fun u => ?_); cases u
  rw [Pipeline.launchCredit_owing, Finsupp.single_eq_same, Finset.sum_congr rfl fun d _ => owed_r hj d, Finset.sum_ite_eq' Finset.univ j fun _ => N,
    if_pos (Finset.mem_univ _)]

theorem creds_intro (c : Dev nD) : (Pipeline.launchCred O₀ c : sProp 𝕄) ⊢ creds c := by
  unfold Pipeline.launchCred creds
  rw [bigSep_univ_at _ (SemLoc.reg barS), launch_bar]
  refine sep_mono_right ?_
  have hinj : Set.InjOn (fun j : Dev nD => (SemLoc.dma (rSem j) : SemLoc sig)) (Finset.univ.erase c : Finset (Dev nD)) :=
    fun a _ b _ h => rSem_injective (SemLoc.dma.inj h)
  have hsub : (Finset.univ.erase c).image (fun j : Dev nD => (SemLoc.dma (rSem j) : SemLoc sig)) ⊆ Finset.univ.erase (SemLoc.reg barS) := by
    intro s hs
    obtain ⟨j, -, rfl⟩ := Finset.mem_image.mp hs
    exact Finset.mem_erase.mpr ⟨(bar_ne_r j).symm, Finset.mem_univ _⟩
  refine (bigSep_subset hsub).trans ?_
  rw [BI.bigSep_image_of_injOn hinj]
  exact Entails.of_eq (bigSep_congr fun j hj => congrArg cred (launch_r (Finset.ne_of_mem_erase hj)))

end Cert.A2A

end
-- ==== Proof.Run.lean ====
/-
The run: from any memory with zero counters, every device ends with its result as computed, its arguments unchanged and
every semaphore at zero.
-/
module

public import proofs.«01_k».proof.Proof.Mint
public import proofs.«01_k».proof.Proof.Credit
public import Idealize.ShloMosaic.Lib.Pipeline.CollectiveSegs
public import Idealize.ShloMosaic.Lib.Quiescent

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 21 → ℕ)

variable (ρ : Dev nD → PrngReg)

theorem ownSemFacts : Pipeline.OwnSemFacts cfg0.spec osem := by decide +kernel
theorem share_eq (c : Dev nD) (w : Fin cfg0.W) : (dats m 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  have hl : (levAts L lv : sProp 𝕄) ⊢ lvls := by unfold lvls; exact Entails.refl _
  rw [Pipeline.unscopedRestP_none, unscopedRest0_eq]
  iintro ⟨Hw, Hlev, Hcr, -, HG⟩
  ihave Hc := (creds_intro (F := F) c) $$ Hcr
  imodintro
  unfold start wAll
  isplitl
  · isplitl [HG]; · iexact HG
    isplitl [Hlev]; · iapply hl; iexact Hlev
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

/-- What a device hands back to the launch: the barrier semaphore at zero, and `w`. -/
def back (c : Dev nD) : sProp 𝕄 := iprop(unscopedSems0 c ∗ wAll m c)

theorem phi1_exit (c : Dev nD) :
    (dats m 0 c).Φ (Fin.last cfg0.N) ⊢ iprop(back m c ∗ Pipeline.ownSems0 osem c ∗ Pipeline.scopedRest cfg0.spec c) := by
  rw [show (dats m 0 c).Φ (Fin.last cfg0.N) = Φ₁ m c from rfl, scopedRest0_eq]
  unfold Φ₁ scratch back
  iintro ⟨Hz, Hw, Hs⟩
  ihave Hz := (sems_eq (F := F) c).2 $$ Hz
  icases Hz with ⟨Ho, Hu⟩
  isplitl [Hu Hw]
  · isplitl [Hu] <;> iassumption
  isplitl [Ho] <;> iassumption

theorem stage_low : ∀ (w : Fin cfg0.W) (s : Fin (cfg0.win w).nbuf), lvOf (kind (.dma ((cfg0.win w).sem s))) = 0 := by decide +kernel

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (stage_low w s) 1 1
    · show _ ⊢ MayWait (c : Thread nD τ) _ () 0
      rw [MayWait_zero]
      iintro -; iempintro

/-- The result of device `c`, and its arguments, after the run. -/
def Final (r : PUnit × MemSt nD τ sig (Elt F)) : Prop :=
  (∀ c : Dev nD, r.2.mem ((c : Thread nD τ).loc main_v1) = (dats m 0 c).arrAt (1 : Fin 2) cfg0.N
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0

theorem back_read (c : Dev nD) (s' : Phys nD τ sig (Elt F)) :
    iprop(back m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ (SI s' : sProp 𝕄)) := by
  unfold back wAll
  iintro ⟨⟨Hu, Hw⟩, -, HSI⟩
  icombine HSI Hw gives %hw
  imod (Pipeline.unscopedSems0_read (X := unscopedSems0 c) (c := c) fupd_intro s') $$ [Hu HSI] with ⟨%hu, HSI⟩
  · isplitl [Hu] <;> iassumption
  imodintro
  isplitr
  · ipureintro; exact ⟨hu, funext fun i => hw i (Finset.mem_univ i)⟩
  iexact HSI

set_option maxRecDepth 8000 in
theorem run_main : θ_run defs (onTc (τ := τ) (main (F := F))) ⟨m, fun _ => 0, ρ⟩ (Final m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := given m) (G' := dealt m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := back m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := back_read m)
    (hQ := fun s h hs => ⟨fun c => ⟨(h c).1 (1 : Fin 2), ((h c).1 (0 : Fin 2)).trans ((dats m 0 c).arrAt_in (0 : Fin 2) rfl _), (h c).2.2.2⟩,
      sem_eq_zero hs fun c => (h c).2.2.1⟩)

end Cert.A2A

end
-- ==== Proof.Final.lean ====
/-
The result array after the run: the one block of the one grid point is the whole array, so it holds what the body left
in the staging buffer.
-/
module

public import proofs.«01_k».proof.Proof.Region
public import Idealize.ShloMosaic.Lib.Pipeline.Value

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

theorem flushed_eq (c : Dev nD) (t : Fin cfg0.N) :
    (dats m 0 c).flushed (1 : Fin 2) t = ((cfg0.win (1 : Fin 2)).blk t).view.read (Elt F) (outAt m c) := by
  obtain rfl := fin_N0 t
  have ha : (dats m 0 c).after (1 : Fin 2) t0_0 = outAt m c := rfl
  unfold Pipeline.Dat.flushed
  rw [ha]
  funext i
  refine congrArg (outAt m c) (funext fun a => Fin.ext ?_)
  have e : ∀ a : Fin 2, win0_1.index t0_0 a * win0_1.size a = 0 := by decide +kernel
  show (i a).val = win0_1.index t0_0 a * win0_1.size a + 1 * (i a).val
  rw [e a]; omega

theorem out_cover (i : S8192x256.Idx) :
    ∃ t : Fin cfg0.N, (cfg0.win (1 : Fin 2)).flush t = true ∧ i ∈ ((cfg0.win (1 : Fin 2)).blk t).view.set := by
  refine ⟨t0_0, by decide, ?_⟩
  show i ∈ ((View.whole main_v1).slice (win0_1.rect t0_0)).set
  rw [View.set_slice_whole, Rect.mem_set_unit]
  have e : ∀ a : Fin 2, win0_1.index t0_0 a * win0_1.size a = 0 ∧ win0_1.xsize (grid0.coords t0_0) a = S8192x256.size a := by
    decide +kernel
  intro a
  have h := e a
  have hi : (i a).val < S8192x256.size a := (i a).isLt
  show win0_1.index t0_0 a * win0_1.size a ≤ (i a).val
    ∧ (i a).val < win0_1.index t0_0 a * win0_1.size a + win0_1.xsize (grid0.coords t0_0) a
  rw [h.1, h.2]
  omega

/-- The result array of device `c` after the run. -/
theorem final_out (c : Dev nD) : (dats m 0 c).arrAt (1 : Fin 2) cfg0.N = outAt m c :=
  (dats m 0 c).arrAt_eq_of_cover (1 : Fin 2) (outAt m c) (fun t _ => flushed_eq m c t) out_cover

/-- The rows a device holds are its whole argument. -/
theorem xs_eq (c : Dev nD) : xs m c = m ((c : Thread nD τ).loc main_arg0) := by
  funext i
  refine congrArg (m ((c : Thread nD τ).loc main_arg0)) (funext fun a => Fin.ext ?_)
  have e : ∀ a : Fin 2, win0_0.index (0 : Fin 1) a * win0_0.size a = 0 := by decide +kernel
  show win0_0.index (0 : Fin 1) a * win0_0.size a + 1 * (i a).val = (i a).val
  rw [e a]; omega

end Cert.A2A

end
-- ==== Proof.Products.lean ====
/-
The products at an element, over the extended reals: a block a device computes, and the reference's product, are each the
plain sum over the 8192 contracted places.
-/
module

public import proofs.«01_k».proof.Proof.Protocol
public import Idealize.ShloMosaic.Lib.MatmulPlain
public import Idealize.ShloMosaic.Lib.Pipeline.Value
public import Idealize.ShloMosaic.Lib.StackMember
public import proofs.«01_k».proof.Proof.Gen.ReferenceIdeal

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

open Idealize.ShloMosaic.ValueIdx
open scoped BigOperators

/-- The block a device computes, at row `r` and column `j`. -/
theorem prod_apply (x : Vec Ideal S512x8192 .bf16) (w : Vec Ideal S8192x256 .bf16) (r : Fin 512) (j : Fin 256) :
    prod (F := Ideal) x w (ix2 r j) = ∑ k : Fin 8192, (x (ix2 r k) : EReal) * (w (ix2 k j) : EReal) := by
  unfold prod
  rw [shapeCast_self]
  refine (Ideal.matmul_plain_apply (M := 512) (K := 8192) (N := 256) (φ₁ := .bf16) (φ₂ := .bf16) none x w
    (constant (F := Ideal) S512x256 .f32 0x00000000#32) r j).trans ?_
  have hz : (constant (F := Ideal) S512x256 .f32 0x00000000#32) (ix2 r j) = (0 : EReal) := by
    show Ideal.ofBits .f32 0 = 0
    simp [Ideal.ofBits, Ideal.ieee]
  rw [hz, zero_add]

/-- The reference's product, at row `r` and column `j`. -/
theorem ref_apply (x : FVec Ideal Cert.ReferenceIdeal.S8192x8192 .bf16) (w : FVec Ideal Cert.ReferenceIdeal.S8192x4096 .bf16)
    (r : Fin 8192) (j : Fin 4096) :
    Host.dotGeneral (F := Ideal) Cert.ReferenceIdeal.dot_S8192x8192_S8192x4096_S8192x4096_1_0_0_1_n_n none x w (ix2 r j)
      = ∑ k : Fin 8192, (x (ix2 r k) : EReal) * (w (ix2 k j) : EReal) :=
  StackMember.dotGeneral_plain_apply (m := 8192) (n := 4096) (k := 8192) (φ₁ := .bf16) (φ₂ := .bf16) none x w r j

end Cert.A2A

end
-- ==== Proof.Equation.lean ====
/-
The equation: when each device holds its rows of `x` and the whole of `w`, its result is its columns of `x` times `w`.
-/
module

public import proofs.«01_k».proof.Proof.Final
public import proofs.«01_k».proof.Proof.Products
public import Idealize.ShloMosaic.Lib.Layout

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

open Idealize.ShloMosaic.ValueIdx
open scoped BigOperators

/-- The columns of `w` meant for device `d`, at row `k` and column `j`. -/
theorem cols_apply (c d : Dev nD) (k : Fin 8192) (j : Fin 256) (j' : Fin 4096) (hj : j'.val = 256 * d.val + j.val) :
    cols m c d (ix2 k j) = m ((c : Thread nD τ).loc main_arg1) (ix2 k j') := by
  refine congrArg (m ((c : Thread nD τ).loc main_arg1)) (funext fun a => Fin.ext ?_)
  match a with
  | ⟨0, _⟩ => show 0 + 1 * k.val = k.val; omega
  | ⟨1, _⟩ => show 256 * d.val + 1 * j.val = j'.val; omega

/-- The whole product. -/
def whole (x : FVec Ideal Cert.ReferenceIdeal.S8192x8192 .bf16) (w : FVec Ideal Cert.ReferenceIdeal.S8192x4096 .bf16) :
    FVec Ideal Cert.ReferenceIdeal.S8192x4096 .f32 :=
  Host.dotGeneral Cert.ReferenceIdeal.dot_S8192x8192_S8192x4096_S8192x4096_1_0_0_1_n_n none x w

/-- A block's element is the whole product's, where the row of `x` and the column of `w` are the same. -/
theorem prod_eq (X : Vec Ideal S512x8192 .bf16) (W : Vec Ideal S8192x256 .bf16)
    (x : FVec Ideal Cert.ReferenceIdeal.S8192x8192 .bf16) (w : FVec Ideal Cert.ReferenceIdeal.S8192x4096 .bf16)
    (r : Fin 512) (j : Fin 256) (R : Fin 8192) (J : Fin 4096)
    (ex : ∀ k : Fin 8192, X (ix2 r k) = x (ix2 R k)) (ew : ∀ k : Fin 8192, W (ix2 k j) = w (ix2 k J)) :
    prod (F := Ideal) X W (ix2 r j) = whole x w (ix2 R J) := by
  refine (prod_apply X W r j).trans (Eq.trans ?_ (ref_apply x w R J).symm)
  exact Finset.sum_congr rfl fun k _ => congrArg₂ (fun a b : EReal => a * b) (ex k) (ew k)

/-- Device `d`'s result is its columns of the whole product. -/
theorem outAt_eq (m : (ℓ : Loc nD τ sig) → Buf (Elt Ideal) ℓ)
    (x : FVec Ideal Cert.ReferenceIdeal.S8192x8192 .bf16) (w : FVec Ideal Cert.ReferenceIdeal.S8192x4096 .bf16)
    (hx : ∀ c : Dev nD, m ((c : Thread nD τ).loc main_arg0) = Layout.block ⟨2, ![512, 8192]⟩ ⟨2, ![8192, 8192]⟩ 0 16 c x)
    (hw : ∀ c : Dev nD, m ((c : Thread nD τ).loc main_arg1) = w) (d : Dev nD) :
    outAt m d = Layout.block ⟨2, ![8192, 256]⟩ ⟨2, ![8192, 4096]⟩ 1 16 d (whole x w) := by
  funext i
  have h0 : (i 0).val < 8192 := (i 0).isLt
  have h1 : (i 1).val < 256 := (i 1).isLt
  have hd : d.val < 16 := d.isLt
  let c : Dev nD := (⟨(i 0).val / 512, by show _ < 16; omega⟩ : Fin 16)
  let r : Fin 512 := ⟨(i 0).val % 512, Nat.mod_lt _ (by decide)⟩
  let j : Fin 256 := ⟨(i 1).val, h1⟩
  let R : Fin 8192 := ⟨(i 0).val, h0⟩
  let J : Fin 4096 := ⟨256 * d.val + (i 1).val, by omega⟩
  have hl : outAt m d i = prod (xs m c) (cols m c d) (ix2 r j) :=
    congrArg (prod (xs m c) (cols m c d)) (funext fun a => match a with | ⟨0, _⟩ => rfl | ⟨1, _⟩ => rfl)
  have hr : Layout.block ⟨2, ![8192, 256]⟩ ⟨2, ![8192, 4096]⟩ 1 16 d (whole x w) (by decide) i = whole x w (ix2 R J) := by
    refine congrArg (whole x w) (funext fun a => Fin.ext ?_)
    match a with
    | ⟨0, _⟩ => rfl
    | ⟨1, _⟩ => show d.val * 256 + (i 1).val = 256 * d.val + (i 1).val; omega
  have ex : ∀ k : Fin 8192, xs m c (ix2 r k) = x (ix2 R k) := by
    intro k
    rw [xs_eq, hx c]
    refine congrArg x (funext fun a => Fin.ext ?_)
    match a with
    | ⟨0, _⟩ => show (i 0).val / 512 * 512 + (i 0).val % 512 = (i 0).val; omega
    | ⟨1, _⟩ => rfl
  have ew : ∀ k : Fin 8192, cols m c d (ix2 k j) = w (ix2 k J) := by
    intro k
    rw [cols_apply m c d k j J rfl, hw c]
  exact hl.trans ((prod_eq (xs m c) (cols m c d) x w r j R J ex ew).trans hr.symm)

end Cert.A2A

end
-- ==== Proof.lean ====
/-
The certificate: the runs of the kernel and of the reference, and the equation between their results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation

@[expose] public section

noncomputable section

namespace Cert.Proof

open Idealize.ShloMosaic Idealize.SL.Sem

/-- The kernel, on the machine's own bits: it ends, its arguments stay and every semaphore is back at zero. -/
theorem frame_kernel : Cert.quiescent_Kernel := by
  intro m ρ _
  have h := (θ_run Cert.KernelIdeal.defs _ _).mono
    (Q := Cert.A2A.Final (F := Bits) m)
    (Q' := fun r => (∀ c : Dev Cert.KernelIdeal.nD,
        r.2.mem (c.tc.loc Cert.KernelIdeal.main_arg0) = m (c.tc.loc Cert.KernelIdeal.main_arg0)
          ∧ r.2.mem (c.tc.loc Cert.KernelIdeal.main_arg1) = m (c.tc.loc Cert.KernelIdeal.main_arg1))
      ∧ r.2.sem = fun _ => 0)
    (fun _ h => ⟨fun c => (h.1 c).2, h.2⟩) (Cert.A2A.run_main (F := Bits) m ρ)
  have e : Cert.KernelIdeal.defs (F := Bits) = Cert.Kernel.defs (F := Bits) := by chain_rfl
  exact (congrArg (fun D => (θ_run D (onTc (τ := Cert.KernelIdeal.τ) (Cert.KernelIdeal.main (F := Bits)))
    ⟨m, fun _ => 0, ρ⟩) _) e).mp h

theorem frame_ideal : Cert.quiescent_KernelIdeal := fun m ρ _ =>
  (θ_run Cert.KernelIdeal.defs _ _).mono (fun _ h => ⟨fun c => (h.1 c).2, h.2⟩) (Cert.A2A.run_main (F := Ideal) m ρ)

/-- The reference: it ends, its arguments stay, and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The devices' results, put side by side, are the reference's. -/
theorem result : Cert.algebraic_KernelIdeal_ReferenceIdeal := by
  intro m ρ m' ρ' _ h
  refine ⟨Cert.A2A.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r hr c => ⟨?_, (hr.1 c).2⟩) (Cert.A2A.run_main (F := Ideal) m ρ)
    exact ((hr.1 c).1.trans (Cert.A2A.final_out m c)).trans
      (Cert.A2A.outAt_eq m _ _ (fun c => (h c).1) (fun c => (h c).2) c)
  · exact (θ_run Cert.ReferenceIdeal.defs _ _).mono (fun r hr => hr 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, result⟩

end Cert.Proof

end
